-- ==== Defs.lean ====
def Pre_Edge [hPre_edge_rows : Cert.Pre_edge_rows.Facts] (m : (ℓ : Loc Cert.Edge.nD Cert.Edge.τ Cert.Edge.sig) → Buf (Elt Bits) ℓ) : Prop :=
  ∀ c : Dev Cert.Edge.nD,
    (Cert.Pre_edge_rows.fn (F := Bits) (m ((c.tc : Thread Cert.Edge.nD Cert.Edge.τ).loc Cert.Edge.main_arg0)) (m ((c.tc : Thread Cert.Edge.nD Cert.Edge.τ).loc Cert.Edge.main_arg1)) (m ((c.tc : Thread Cert.Edge.nD Cert.Edge.τ).loc Cert.Edge.main_arg2)) (m ((c.tc : Thread Cert.Edge.nD Cert.Edge.τ).loc Cert.Edge.main_arg3)) (m ((c.tc : Thread Cert.Edge.nD Cert.Edge.τ).loc Cert.Edge.main_arg4))) = (fun _ => 1#1)

def Pre_EdgeIdeal [hPre_edge_rows : Cert.Pre_edge_rows.Facts] (m : (ℓ : Loc Cert.EdgeIdeal.nD Cert.EdgeIdeal.τ Cert.EdgeIdeal.sig) → Buf (Elt Ideal) ℓ) : Prop :=
  ∀ c : Dev Cert.EdgeIdeal.nD,
    (Cert.Pre_edge_rows.fn (F := Ideal) (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3)) (m ((c.tc : Thread Cert.EdgeIdeal.nD Cert.EdgeIdeal.τ).loc Cert.EdgeIdeal.main_arg4))) = (fun _ => 1#1)

def Pre_EdgeRefIdeal (m : (ℓ : Loc Cert.EdgeRefIdeal.nD Cert.EdgeRefIdeal.τ Cert.EdgeRefIdeal.sig) → Buf (Elt Ideal) ℓ) : Prop :=
  True

def Pre_EdgeRefIdeal_edge_rows [hPre_edge_rows : Cert.Pre_edge_rows.Facts] (m : (ℓ : Loc Cert.EdgeRefIdeal.nD Cert.EdgeRefIdeal.τ Cert.EdgeRefIdeal.sig) → Buf (Elt Ideal) ℓ) : Prop :=
  ∀ c : Dev Cert.EdgeRefIdeal.nD,
    (Cert.Pre_edge_rows.fn (F := Ideal) (m ((c.tc : Thread Cert.EdgeRefIdeal.nD Cert.EdgeRefIdeal.τ).loc Cert.EdgeRefIdeal.main_arg0)) (m ((c.tc : Thread Cert.EdgeRefIdeal.nD Cert.EdgeRefIdeal.τ).loc Cert.EdgeRefIdeal.main_arg1)) (m ((c.tc : Thread Cert.EdgeRefIdeal.nD Cert.EdgeRefIdeal.τ).loc Cert.EdgeRefIdeal.main_arg2)) (m ((c.tc : Thread Cert.EdgeRefIdeal.nD Cert.EdgeRefIdeal.τ).loc Cert.EdgeRefIdeal.main_arg3)) (m ((c.tc : Thread Cert.EdgeRefIdeal.nD Cert.EdgeRefIdeal.τ).loc Cert.EdgeRefIdeal.main_arg4))) = (fun _ => 1#1)

def Pre_Mm1 (m : (ℓ : Loc Cert.Mm1.nD Cert.Mm1.τ Cert.Mm1.sig) → Buf (Elt Bits) ℓ) : Prop :=
  True

def Pre_Mm1Ideal (m : (ℓ : Loc Cert.Mm1Ideal.nD Cert.Mm1Ideal.τ Cert.Mm1Ideal.sig) → Buf (Elt Ideal) ℓ) : Prop :=
  True

def Pre_Mm1RefIdeal (m : (ℓ : Loc Cert.Mm1RefIdeal.nD Cert.Mm1RefIdeal.τ Cert.Mm1RefIdeal.sig) → Buf (Elt Ideal) ℓ) : Prop :=
  True

def Pre_Mm2 (m : (ℓ : Loc Cert.Mm2.nD Cert.Mm2.τ Cert.Mm2.sig) → Buf (Elt Bits) ℓ) : Prop :=
  True

def Pre_Mm2Ideal (m : (ℓ : Loc Cert.Mm2Ideal.nD Cert.Mm2Ideal.τ Cert.Mm2Ideal.sig) → Buf (Elt Ideal) ℓ) : Prop :=
  True

def Pre_Mm2RefIdeal (m : (ℓ : Loc Cert.Mm2RefIdeal.nD Cert.Mm2RefIdeal.τ Cert.Mm2RefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Edge [hEdge : Cert.Edge.Facts] [hPre_edge_rows : Cert.Pre_edge_rows.Facts] : Prop :=
  ∀ (m : (ℓ : Loc Cert.Edge.nD Cert.Edge.τ Cert.Edge.sig) → Buf (Elt Bits) ℓ) (g : Dev Cert.Edge.nD → PrngReg), Pre_Edge m →
    θ_run (Cert.Edge.defs (F := Bits)) (Cert.Edge.threads (F := Bits)) ⟨m, fun _ => 0, g⟩ (fun r => (∀ c : Dev Cert.Edge.nD,
      r.2.mem ((c.tc : Thread Cert.Edge.nD Cert.Edge.τ).loc Cert.Edge.main_arg0) = m ((c.tc : Thread Cert.Edge.nD Cert.Edge.τ).loc Cert.Edge.main_arg0)
      ∧ r.2.mem ((c.tc : Thread Cert.Edge.nD Cert.Edge.τ).loc Cert.Edge.main_arg1) = m ((c.tc : Thread Cert.Edge.nD Cert.Edge.τ).loc Cert.Edge.main_arg1)
      ∧ r.2.mem ((c.tc : Thread Cert.Edge.nD Cert.Edge.τ).loc Cert.Edge.main_arg2) = m ((c.tc : Thread Cert.Edge.nD Cert.Edge.τ).loc Cert.Edge.main_arg2)
      ∧ r.2.mem ((c.tc : Thread Cert.Edge.nD Cert.Edge.τ).loc Cert.Edge.main_arg3) = m ((c.tc : Thread Cert.Edge.nD Cert.Edge.τ).loc Cert.Edge.main_arg3)
      ∧ r.2.mem ((c.tc : Thread Cert.Edge.nD Cert.Edge.τ).loc Cert.Edge.main_arg4) = m ((c.tc : Thread Cert.Edge.nD Cert.Edge.τ).loc Cert.Edge.main_arg4))
      ∧ r.2.sem = fun _ => 0)

def quiescent_EdgeIdeal [hEdgeIdeal : Cert.EdgeIdeal.Facts] [hPre_edge_rows : Cert.Pre_edge_rows.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal m →
    θ_run (Cert.EdgeIdeal.defs (F := Ideal)) (Cert.EdgeIdeal.threads (F := Ideal)) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
      ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4))
      ∧ r.2.sem = fun _ => 0)

def quiescent_EdgeRefIdeal [hEdgeRefIdeal : Cert.EdgeRefIdeal.Facts] : Prop :=
  ∀ (m : (ℓ : Loc Cert.EdgeRefIdeal.nD Cert.EdgeRefIdeal.τ Cert.EdgeRefIdeal.sig) → Buf (Elt Ideal) ℓ) (g : Dev Cert.EdgeRefIdeal.nD → PrngReg), Pre_EdgeRefIdeal m →
    θ_run (Cert.EdgeRefIdeal.defs (F := Ideal)) (onTc (τ := Cert.EdgeRefIdeal.τ) (Cert.EdgeRefIdeal.main (F := Ideal))) ⟨m, fun _ => 0, g⟩ (fun r => (∀ c : Dev Cert.EdgeRefIdeal.nD,
      r.2.mem ((c.tc : Thread Cert.EdgeRefIdeal.nD Cert.EdgeRefIdeal.τ).loc Cert.EdgeRefIdeal.main_arg0) = m ((c.tc : Thread Cert.EdgeRefIdeal.nD Cert.EdgeRefIdeal.τ).loc Cert.EdgeRefIdeal.main_arg0)
      ∧ r.2.mem ((c.tc : Thread Cert.EdgeRefIdeal.nD Cert.EdgeRefIdeal.τ).loc Cert.EdgeRefIdeal.main_arg1) = m ((c.tc : Thread Cert.EdgeRefIdeal.nD Cert.EdgeRefIdeal.τ).loc Cert.EdgeRefIdeal.main_arg1)
      ∧ r.2.mem ((c.tc : Thread Cert.EdgeRefIdeal.nD Cert.EdgeRefIdeal.τ).loc Cert.EdgeRefIdeal.main_arg2) = m ((c.tc : Thread Cert.EdgeRefIdeal.nD Cert.EdgeRefIdeal.τ).loc Cert.EdgeRefIdeal.main_arg2)
      ∧ r.2.mem ((c.tc : Thread Cert.EdgeRefIdeal.nD Cert.EdgeRefIdeal.τ).loc Cert.EdgeRefIdeal.main_arg3) = m ((c.tc : Thread Cert.EdgeRefIdeal.nD Cert.EdgeRefIdeal.τ).loc Cert.EdgeRefIdeal.main_arg3)
      ∧ r.2.mem ((c.tc : Thread Cert.EdgeRefIdeal.nD Cert.EdgeRefIdeal.τ).loc Cert.EdgeRefIdeal.main_arg4) = m ((c.tc : Thread Cert.EdgeRefIdeal.nD Cert.EdgeRefIdeal.τ).loc Cert.EdgeRefIdeal.main_arg4))
      ∧ r.2.sem = fun _ => 0)

def quiescent_EdgeRefIdeal_pre_edge_rows [hEdgeRefIdeal : Cert.EdgeRefIdeal.Facts] [hPre_edge_rows : Cert.Pre_edge_rows.Facts] : Prop :=
  ∀ (m : (ℓ : Loc Cert.EdgeRefIdeal.nD Cert.EdgeRefIdeal.τ Cert.EdgeRefIdeal.sig) → Buf (Elt Ideal) ℓ) (g : Dev Cert.EdgeRefIdeal.nD → PrngReg), Pre_EdgeRefIdeal_edge_rows m →
    θ_run (Cert.EdgeRefIdeal.defs (F := Ideal)) (onTc (τ := Cert.EdgeRefIdeal.τ) (Cert.EdgeRefIdeal.main (F := Ideal))) ⟨m, fun _ => 0, g⟩ (fun r => (∀ c : Dev Cert.EdgeRefIdeal.nD,
      r.2.mem ((c.tc : Thread Cert.EdgeRefIdeal.nD Cert.EdgeRefIdeal.τ).loc Cert.EdgeRefIdeal.main_arg0) = m ((c.tc : Thread Cert.EdgeRefIdeal.nD Cert.EdgeRefIdeal.τ).loc Cert.EdgeRefIdeal.main_arg0)
      ∧ r.2.mem ((c.tc : Thread Cert.EdgeRefIdeal.nD Cert.EdgeRefIdeal.τ).loc Cert.EdgeRefIdeal.main_arg1) = m ((c.tc : Thread Cert.EdgeRefIdeal.nD Cert.EdgeRefIdeal.τ).loc Cert.EdgeRefIdeal.main_arg1)
      ∧ r.2.mem ((c.tc : Thread Cert.EdgeRefIdeal.nD Cert.EdgeRefIdeal.τ).loc Cert.EdgeRefIdeal.main_arg2) = m ((c.tc : Thread Cert.EdgeRefIdeal.nD Cert.EdgeRefIdeal.τ).loc Cert.EdgeRefIdeal.main_arg2)
      ∧ r.2.mem ((c.tc : Thread Cert.EdgeRefIdeal.nD Cert.EdgeRefIdeal.τ).loc Cert.EdgeRefIdeal.main_arg3) = m ((c.tc : Thread Cert.EdgeRefIdeal.nD Cert.EdgeRefIdeal.τ).loc Cert.EdgeRefIdeal.main_arg3)
      ∧ r.2.mem ((c.tc : Thread Cert.EdgeRefIdeal.nD Cert.EdgeRefIdeal.τ).loc Cert.EdgeRefIdeal.main_arg4) = m ((c.tc : Thread Cert.EdgeRefIdeal.nD Cert.EdgeRefIdeal.τ).loc Cert.EdgeRefIdeal.main_arg4))
      ∧ r.2.sem = fun _ => 0)

def quiescent_Mm1 [hMm1 : Cert.Mm1.Facts] : Prop :=
  ∀ (m : (ℓ : Loc Cert.Mm1.nD Cert.Mm1.τ Cert.Mm1.sig) → Buf (Elt Bits) ℓ) (g : Dev Cert.Mm1.nD → PrngReg), Pre_Mm1 m →
    θ_run (Cert.Mm1.defs (F := Bits)) (onTc (τ := Cert.Mm1.τ) (Cert.Mm1.main (F := Bits))) ⟨m, fun _ => 0, g⟩ (fun r => (∀ c : Dev Cert.Mm1.nD,
      r.2.mem ((c.tc : Thread Cert.Mm1.nD Cert.Mm1.τ).loc Cert.Mm1.main_arg0) = m ((c.tc : Thread Cert.Mm1.nD Cert.Mm1.τ).loc Cert.Mm1.main_arg0)
      ∧ r.2.mem ((c.tc : Thread Cert.Mm1.nD Cert.Mm1.τ).loc Cert.Mm1.main_arg1) = m ((c.tc : Thread Cert.Mm1.nD Cert.Mm1.τ).loc Cert.Mm1.main_arg1)
      ∧ r.2.mem ((c.tc : Thread Cert.Mm1.nD Cert.Mm1.τ).loc Cert.Mm1.main_arg2) = m ((c.tc : Thread Cert.Mm1.nD Cert.Mm1.τ).loc Cert.Mm1.main_arg2)
      ∧ r.2.mem ((c.tc : Thread Cert.Mm1.nD Cert.Mm1.τ).loc Cert.Mm1.main_arg3) = m ((c.tc : Thread Cert.Mm1.nD Cert.Mm1.τ).loc Cert.Mm1.main_arg3))
      ∧ r.2.sem = fun _ => 0)

def quiescent_Mm1Ideal [hMm1Ideal : Cert.Mm1Ideal.Facts] : Prop :=
  ∀ (m : (ℓ : Loc Cert.Mm1Ideal.nD Cert.Mm1Ideal.τ Cert.Mm1Ideal.sig) → Buf (Elt Ideal) ℓ) (g : Dev Cert.Mm1Ideal.nD → PrngReg), Pre_Mm1Ideal m →
    θ_run (Cert.Mm1Ideal.defs (F := Ideal)) (onTc (τ := Cert.Mm1Ideal.τ) (Cert.Mm1Ideal.main (F := Ideal))) ⟨m, fun _ => 0, g⟩ (fun r => (∀ c : Dev Cert.Mm1Ideal.nD,
      r.2.mem ((c.tc : Thread Cert.Mm1Ideal.nD Cert.Mm1Ideal.τ).loc Cert.Mm1Ideal.main_arg0) = m ((c.tc : Thread Cert.Mm1Ideal.nD Cert.Mm1Ideal.τ).loc Cert.Mm1Ideal.main_arg0)
      ∧ r.2.mem ((c.tc : Thread Cert.Mm1Ideal.nD Cert.Mm1Ideal.τ).loc Cert.Mm1Ideal.main_arg1) = m ((c.tc : Thread Cert.Mm1Ideal.nD Cert.Mm1Ideal.τ).loc Cert.Mm1Ideal.main_arg1)
      ∧ r.2.mem ((c.tc : Thread Cert.Mm1Ideal.nD Cert.Mm1Ideal.τ).loc Cert.Mm1Ideal.main_arg2) = m ((c.tc : Thread Cert.Mm1Ideal.nD Cert.Mm1Ideal.τ).loc Cert.Mm1Ideal.main_arg2)
      ∧ r.2.mem ((c.tc : Thread Cert.Mm1Ideal.nD Cert.Mm1Ideal.τ).loc Cert.Mm1Ideal.main_arg3) = m ((c.tc : Thread Cert.Mm1Ideal.nD Cert.Mm1Ideal.τ).loc Cert.Mm1Ideal.main_arg3))
      ∧ r.2.sem = fun _ => 0)

def quiescent_Mm1RefIdeal [hMm1RefIdeal : Cert.Mm1RefIdeal.Facts] : Prop :=
  ∀ (m : (ℓ : Loc Cert.Mm1RefIdeal.nD Cert.Mm1RefIdeal.τ Cert.Mm1RefIdeal.sig) → Buf (Elt Ideal) ℓ) (g : Dev Cert.Mm1RefIdeal.nD → PrngReg), Pre_Mm1RefIdeal m →
    θ_run (Cert.Mm1RefIdeal.defs (F := Ideal)) (onTc (τ := Cert.Mm1RefIdeal.τ) (Cert.Mm1RefIdeal.main (F := Ideal))) ⟨m, fun _ => 0, g⟩ (fun r => (∀ c : Dev Cert.Mm1RefIdeal.nD,
      r.2.mem ((c.tc : Thread Cert.Mm1RefIdeal.nD Cert.Mm1RefIdeal.τ).loc Cert.Mm1RefIdeal.main_arg0) = m ((c.tc : Thread Cert.Mm1RefIdeal.nD Cert.Mm1RefIdeal.τ).loc Cert.Mm1RefIdeal.main_arg0)
      ∧ r.2.mem ((c.tc : Thread Cert.Mm1RefIdeal.nD Cert.Mm1RefIdeal.τ).loc Cert.Mm1RefIdeal.main_arg1) = m ((c.tc : Thread Cert.Mm1RefIdeal.nD Cert.Mm1RefIdeal.τ).loc Cert.Mm1RefIdeal.main_arg1)
      ∧ r.2.mem ((c.tc : Thread Cert.Mm1RefIdeal.nD Cert.Mm1RefIdeal.τ).loc Cert.Mm1RefIdeal.main_arg2) = m ((c.tc : Thread Cert.Mm1RefIdeal.nD Cert.Mm1RefIdeal.τ).loc Cert.Mm1RefIdeal.main_arg2)
      ∧ r.2.mem ((c.tc : Thread Cert.Mm1RefIdeal.nD Cert.Mm1RefIdeal.τ).loc Cert.Mm1RefIdeal.main_arg3) = m ((c.tc : Thread Cert.Mm1RefIdeal.nD Cert.Mm1RefIdeal.τ).loc Cert.Mm1RefIdeal.main_arg3))
      ∧ r.2.sem = fun _ => 0)

def quiescent_Mm2 [hMm2 : Cert.Mm2.Facts] : Prop :=
  ∀ (m : (ℓ : Loc Cert.Mm2.nD Cert.Mm2.τ Cert.Mm2.sig) → Buf (Elt Bits) ℓ) (g : Dev Cert.Mm2.nD → PrngReg), Pre_Mm2 m →
    θ_run (Cert.Mm2.defs (F := Bits)) (onTc (τ := Cert.Mm2.τ) (Cert.Mm2.main (F := Bits))) ⟨m, fun _ => 0, g⟩ (fun r => (∀ c : Dev Cert.Mm2.nD,
      r.2.mem ((c.tc : Thread Cert.Mm2.nD Cert.Mm2.τ).loc Cert.Mm2.main_arg0) = m ((c.tc : Thread Cert.Mm2.nD Cert.Mm2.τ).loc Cert.Mm2.main_arg0)
      ∧ r.2.mem ((c.tc : Thread Cert.Mm2.nD Cert.Mm2.τ).loc Cert.Mm2.main_arg1) = m ((c.tc : Thread Cert.Mm2.nD Cert.Mm2.τ).loc Cert.Mm2.main_arg1)
      ∧ r.2.mem ((c.tc : Thread Cert.Mm2.nD Cert.Mm2.τ).loc Cert.Mm2.main_arg2) = m ((c.tc : Thread Cert.Mm2.nD Cert.Mm2.τ).loc Cert.Mm2.main_arg2)
      ∧ r.2.mem ((c.tc : Thread Cert.Mm2.nD Cert.Mm2.τ).loc Cert.Mm2.main_arg3) = m ((c.tc : Thread Cert.Mm2.nD Cert.Mm2.τ).loc Cert.Mm2.main_arg3)
      ∧ r.2.mem ((c.tc : Thread Cert.Mm2.nD Cert.Mm2.τ).loc Cert.Mm2.main_arg4) = m ((c.tc : Thread Cert.Mm2.nD Cert.Mm2.τ).loc Cert.Mm2.main_arg4))
      ∧ r.2.sem = fun _ => 0)

def quiescent_Mm2Ideal [hMm2Ideal : Cert.Mm2Ideal.Facts] : Prop :=
  ∀ (m : (ℓ : Loc Cert.Mm2Ideal.nD Cert.Mm2Ideal.τ Cert.Mm2Ideal.sig) → Buf (Elt Ideal) ℓ) (g : Dev Cert.Mm2Ideal.nD → PrngReg), Pre_Mm2Ideal m →
    θ_run (Cert.Mm2Ideal.defs (F := Ideal)) (onTc (τ := Cert.Mm2Ideal.τ) (Cert.Mm2Ideal.main (F := Ideal))) ⟨m, fun _ => 0, g⟩ (fun r => (∀ c : Dev Cert.Mm2Ideal.nD,
      r.2.mem ((c.tc : Thread Cert.Mm2Ideal.nD Cert.Mm2Ideal.τ).loc Cert.Mm2Ideal.main_arg0) = m ((c.tc : Thread Cert.Mm2Ideal.nD Cert.Mm2Ideal.τ).loc Cert.Mm2Ideal.main_arg0)
      ∧ r.2.mem ((c.tc : Thread Cert.Mm2Ideal.nD Cert.Mm2Ideal.τ).loc Cert.Mm2Ideal.main_arg1) = m ((c.tc : Thread Cert.Mm2Ideal.nD Cert.Mm2Ideal.τ).loc Cert.Mm2Ideal.main_arg1)
      ∧ r.2.mem ((c.tc : Thread Cert.Mm2Ideal.nD Cert.Mm2Ideal.τ).loc Cert.Mm2Ideal.main_arg2) = m ((c.tc : Thread Cert.Mm2Ideal.nD Cert.Mm2Ideal.τ).loc Cert.Mm2Ideal.main_arg2)
      ∧ r.2.mem ((c.tc : Thread Cert.Mm2Ideal.nD Cert.Mm2Ideal.τ).loc Cert.Mm2Ideal.main_arg3) = m ((c.tc : Thread Cert.Mm2Ideal.nD Cert.Mm2Ideal.τ).loc Cert.Mm2Ideal.main_arg3)
      ∧ r.2.mem ((c.tc : Thread Cert.Mm2Ideal.nD Cert.Mm2Ideal.τ).loc Cert.Mm2Ideal.main_arg4) = m ((c.tc : Thread Cert.Mm2Ideal.nD Cert.Mm2Ideal.τ).loc Cert.Mm2Ideal.main_arg4))
      ∧ r.2.sem = fun _ => 0)

def quiescent_Mm2RefIdeal [hMm2RefIdeal : Cert.Mm2RefIdeal.Facts] : Prop :=
  ∀ (m : (ℓ : Loc Cert.Mm2RefIdeal.nD Cert.Mm2RefIdeal.τ Cert.Mm2RefIdeal.sig) → Buf (Elt Ideal) ℓ) (g : Dev Cert.Mm2RefIdeal.nD → PrngReg), Pre_Mm2RefIdeal m →
    θ_run (Cert.Mm2RefIdeal.defs (F := Ideal)) (onTc (τ := Cert.Mm2RefIdeal.τ) (Cert.Mm2RefIdeal.main (F := Ideal))) ⟨m, fun _ => 0, g⟩ (fun r => (∀ c : Dev Cert.Mm2RefIdeal.nD,
      r.2.mem ((c.tc : Thread Cert.Mm2RefIdeal.nD Cert.Mm2RefIdeal.τ).loc Cert.Mm2RefIdeal.main_arg0) = m ((c.tc : Thread Cert.Mm2RefIdeal.nD Cert.Mm2RefIdeal.τ).loc Cert.Mm2RefIdeal.main_arg0)
      ∧ r.2.mem ((c.tc : Thread Cert.Mm2RefIdeal.nD Cert.Mm2RefIdeal.τ).loc Cert.Mm2RefIdeal.main_arg1) = m ((c.tc : Thread Cert.Mm2RefIdeal.nD Cert.Mm2RefIdeal.τ).loc Cert.Mm2RefIdeal.main_arg1)
      ∧ r.2.mem ((c.tc : Thread Cert.Mm2RefIdeal.nD Cert.Mm2RefIdeal.τ).loc Cert.Mm2RefIdeal.main_arg2) = m ((c.tc : Thread Cert.Mm2RefIdeal.nD Cert.Mm2RefIdeal.τ).loc Cert.Mm2RefIdeal.main_arg2)
      ∧ r.2.mem ((c.tc : Thread Cert.Mm2RefIdeal.nD Cert.Mm2RefIdeal.τ).loc Cert.Mm2RefIdeal.main_arg3) = m ((c.tc : Thread Cert.Mm2RefIdeal.nD Cert.Mm2RefIdeal.τ).loc Cert.Mm2RefIdeal.main_arg3)
      ∧ r.2.mem ((c.tc : Thread Cert.Mm2RefIdeal.nD Cert.Mm2RefIdeal.τ).loc Cert.Mm2RefIdeal.main_arg4) = m ((c.tc : Thread Cert.Mm2RefIdeal.nD Cert.Mm2RefIdeal.τ).loc Cert.Mm2RefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def preserves_Edge_EdgeIdeal : Prop :=
  True

def algebraic_EdgeIdeal_EdgeRefIdeal [hEdgeIdeal : Cert.EdgeIdeal.Facts] [hEdgeRefIdeal : Cert.EdgeRefIdeal.Facts] [hPre_edge_rows : Cert.Pre_edge_rows.Facts] : Prop :=
  ∀ (m : (ℓ : Loc Cert.EdgeIdeal.nD Cert.EdgeIdeal.τ Cert.EdgeIdeal.sig) → Buf (Elt Ideal) ℓ) (g : Dev Cert.EdgeIdeal.nD → PrngReg)
    (m' : (ℓ : Loc Cert.EdgeRefIdeal.nD Cert.EdgeRefIdeal.τ Cert.EdgeRefIdeal.sig) → Buf (Elt Ideal) ℓ) (g' : Dev Cert.EdgeRefIdeal.nD → PrngReg), Pre_EdgeIdeal m →
    (∀ c : Dev Cert.EdgeIdeal.nD,
      m' ((c.tc : Thread Cert.EdgeRefIdeal.nD Cert.EdgeRefIdeal.τ).loc Cert.EdgeRefIdeal.main_arg0) = m ((c.tc : Thread Cert.EdgeIdeal.nD Cert.EdgeIdeal.τ).loc Cert.EdgeIdeal.main_arg0)
      ∧ m' ((c.tc : Thread Cert.EdgeRefIdeal.nD Cert.EdgeRefIdeal.τ).loc Cert.EdgeRefIdeal.main_arg1) = m ((c.tc : Thread Cert.EdgeIdeal.nD Cert.EdgeIdeal.τ).loc Cert.EdgeIdeal.main_arg1)
      ∧ m' ((c.tc : Thread Cert.EdgeRefIdeal.nD Cert.EdgeRefIdeal.τ).loc Cert.EdgeRefIdeal.main_arg2) = m ((c.tc : Thread Cert.EdgeIdeal.nD Cert.EdgeIdeal.τ).loc Cert.EdgeIdeal.main_arg2)
      ∧ m' ((c.tc : Thread Cert.EdgeRefIdeal.nD Cert.EdgeRefIdeal.τ).loc Cert.EdgeRefIdeal.main_arg3) = m ((c.tc : Thread Cert.EdgeIdeal.nD Cert.EdgeIdeal.τ).loc Cert.EdgeIdeal.main_arg3)
      ∧ m' ((c.tc : Thread Cert.EdgeRefIdeal.nD Cert.EdgeRefIdeal.τ).loc Cert.EdgeRefIdeal.main_arg4) = m ((c.tc : Thread Cert.EdgeIdeal.nD Cert.EdgeIdeal.τ).loc Cert.EdgeIdeal.main_arg4)) →
    ∃ (v0 : (c : Dev Cert.EdgeIdeal.nD) → Buf (Elt Ideal) ((c.tc : Thread Cert.EdgeIdeal.nD Cert.EdgeIdeal.τ).loc Cert.EdgeIdeal.main_v0_0)) (v1 : (c : Dev Cert.EdgeIdeal.nD) → Buf (Elt Ideal) ((c.tc : Thread Cert.EdgeIdeal.nD Cert.EdgeIdeal.τ).loc Cert.EdgeIdeal.main_v0_1)),
      θ_run (Cert.EdgeIdeal.defs (F := Ideal)) (Cert.EdgeIdeal.threads (F := Ideal)) ⟨m, fun _ => 0, g⟩ (fun r => ∀ c : Dev Cert.EdgeIdeal.nD,
          r.2.mem ((c.tc : Thread Cert.EdgeIdeal.nD Cert.EdgeIdeal.τ).loc Cert.EdgeIdeal.main_v0_0) = v0 c
          ∧ r.2.mem ((c.tc : Thread Cert.EdgeIdeal.nD Cert.EdgeIdeal.τ).loc Cert.EdgeIdeal.main_v0_1) = v1 c
          ∧ r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
          ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
          ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
          ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3)
          ∧ r.2.mem ((c.tc : Thread Cert.EdgeIdeal.nD Cert.EdgeIdeal.τ).loc Cert.EdgeIdeal.main_arg4) = m ((c.tc : Thread Cert.EdgeIdeal.nD Cert.EdgeIdeal.τ).loc Cert.EdgeIdeal.main_arg4))
      ∧ θ_run (Cert.EdgeRefIdeal.defs (F := Ideal)) (onTc (τ := Cert.EdgeRefIdeal.τ) (Cert.EdgeRefIdeal.main (F := Ideal))) ⟨m', fun _ => 0, g'⟩ (fun r => ∀ c : Dev Cert.EdgeRefIdeal.nD,
          r.2.mem ((c.tc : Thread Cert.EdgeRefIdeal.nD Cert.EdgeRefIdeal.τ).loc Cert.EdgeRefIdeal.main_v9) = v0 c
          ∧ r.2.mem ((c.tc : Thread Cert.EdgeRefIdeal.nD Cert.EdgeRefIdeal.τ).loc Cert.EdgeRefIdeal.main_v10) = v1 c
          ∧ r.2.mem ((c.tc : Thread Cert.EdgeRefIdeal.nD Cert.EdgeRefIdeal.τ).loc Cert.EdgeRefIdeal.main_arg0) = m' ((c.tc : Thread Cert.EdgeRefIdeal.nD Cert.EdgeRefIdeal.τ).loc Cert.EdgeRefIdeal.main_arg0)
          ∧ r.2.mem ((c.tc : Thread Cert.EdgeRefIdeal.nD Cert.EdgeRefIdeal.τ).loc Cert.EdgeRefIdeal.main_arg1) = m' ((c.tc : Thread Cert.EdgeRefIdeal.nD Cert.EdgeRefIdeal.τ).loc Cert.EdgeRefIdeal.main_arg1)
          ∧ r.2.mem ((c.tc : Thread Cert.EdgeRefIdeal.nD Cert.EdgeRefIdeal.τ).loc Cert.EdgeRefIdeal.main_arg2) = m' ((c.tc : Thread Cert.EdgeRefIdeal.nD Cert.EdgeRefIdeal.τ).loc Cert.EdgeRefIdeal.main_arg2)
          ∧ r.2.mem ((c.tc : Thread Cert.EdgeRefIdeal.nD Cert.EdgeRefIdeal.τ).loc Cert.EdgeRefIdeal.main_arg3) = m' ((c.tc : Thread Cert.EdgeRefIdeal.nD Cert.EdgeRefIdeal.τ).loc Cert.EdgeRefIdeal.main_arg3)
          ∧ r.2.mem ((c.tc : Thread Cert.EdgeRefIdeal.nD Cert.EdgeRefIdeal.τ).loc Cert.EdgeRefIdeal.main_arg4) = m' ((c.tc : Thread Cert.EdgeRefIdeal.nD Cert.EdgeRefIdeal.τ).loc Cert.EdgeRefIdeal.main_arg4))

def preserves_Mm1_Mm1Ideal : Prop :=
  True

def algebraic_Mm1Ideal_Mm1RefIdeal [hMm1Ideal : Cert.Mm1Ideal.Facts] [hMm1RefIdeal : Cert.Mm1RefIdeal.Facts] : Prop :=
  ∀ (m : (ℓ : Loc Cert.Mm1Ideal.nD Cert.Mm1Ideal.τ Cert.Mm1Ideal.sig) → Buf (Elt Ideal) ℓ) (g : Dev Cert.Mm1Ideal.nD → PrngReg)
    (m' : (ℓ : Loc Cert.Mm1RefIdeal.nD Cert.Mm1RefIdeal.τ Cert.Mm1RefIdeal.sig) → Buf (Elt Ideal) ℓ) (g' : Dev Cert.Mm1RefIdeal.nD → PrngReg), Pre_Mm1Ideal m →
    (∀ c : Dev Cert.Mm1Ideal.nD,
      m' ((c.tc : Thread Cert.Mm1RefIdeal.nD Cert.Mm1RefIdeal.τ).loc Cert.Mm1RefIdeal.main_arg0) = m ((c.tc : Thread Cert.Mm1Ideal.nD Cert.Mm1Ideal.τ).loc Cert.Mm1Ideal.main_arg0)
      ∧ m' ((c.tc : Thread Cert.Mm1RefIdeal.nD Cert.Mm1RefIdeal.τ).loc Cert.Mm1RefIdeal.main_arg1) = m ((c.tc : Thread Cert.Mm1Ideal.nD Cert.Mm1Ideal.τ).loc Cert.Mm1Ideal.main_arg1)
      ∧ m' ((c.tc : Thread Cert.Mm1RefIdeal.nD Cert.Mm1RefIdeal.τ).loc Cert.Mm1RefIdeal.main_arg2) = m ((c.tc : Thread Cert.Mm1Ideal.nD Cert.Mm1Ideal.τ).loc Cert.Mm1Ideal.main_arg2)
      ∧ m' ((c.tc : Thread Cert.Mm1RefIdeal.nD Cert.Mm1RefIdeal.τ).loc Cert.Mm1RefIdeal.main_arg3) = m ((c.tc : Thread Cert.Mm1Ideal.nD Cert.Mm1Ideal.τ).loc Cert.Mm1Ideal.main_arg3)) →
    ∃ (v0 : (c : Dev Cert.Mm1Ideal.nD) → Buf (Elt Ideal) ((c.tc : Thread Cert.Mm1Ideal.nD Cert.Mm1Ideal.τ).loc Cert.Mm1Ideal.main_v3_0)) (v1 : (c : Dev Cert.Mm1Ideal.nD) → Buf (Elt Ideal) ((c.tc : Thread Cert.Mm1Ideal.nD Cert.Mm1Ideal.τ).loc Cert.Mm1Ideal.main_v3_1)),
      θ_run (Cert.Mm1Ideal.defs (F := Ideal)) (onTc (τ := Cert.Mm1Ideal.τ) (Cert.Mm1Ideal.main (F := Ideal))) ⟨m, fun _ => 0, g⟩ (fun r => ∀ c : Dev Cert.Mm1Ideal.nD,
          r.2.mem ((c.tc : Thread Cert.Mm1Ideal.nD Cert.Mm1Ideal.τ).loc Cert.Mm1Ideal.main_v3_0) = v0 c
          ∧ r.2.mem ((c.tc : Thread Cert.Mm1Ideal.nD Cert.Mm1Ideal.τ).loc Cert.Mm1Ideal.main_v3_1) = v1 c
          ∧ r.2.mem ((c.tc : Thread Cert.Mm1Ideal.nD Cert.Mm1Ideal.τ).loc Cert.Mm1Ideal.main_arg0) = m ((c.tc : Thread Cert.Mm1Ideal.nD Cert.Mm1Ideal.τ).loc Cert.Mm1Ideal.main_arg0)
          ∧ r.2.mem ((c.tc : Thread Cert.Mm1Ideal.nD Cert.Mm1Ideal.τ).loc Cert.Mm1Ideal.main_arg1) = m ((c.tc : Thread Cert.Mm1Ideal.nD Cert.Mm1Ideal.τ).loc Cert.Mm1Ideal.main_arg1)
          ∧ r.2.mem ((c.tc : Thread Cert.Mm1Ideal.nD Cert.Mm1Ideal.τ).loc Cert.Mm1Ideal.main_arg2) = m ((c.tc : Thread Cert.Mm1Ideal.nD Cert.Mm1Ideal.τ).loc Cert.Mm1Ideal.main_arg2)
          ∧ r.2.mem ((c.tc : Thread Cert.Mm1Ideal.nD Cert.Mm1Ideal.τ).loc Cert.Mm1Ideal.main_arg3) = m ((c.tc : Thread Cert.Mm1Ideal.nD Cert.Mm1Ideal.τ).loc Cert.Mm1Ideal.main_arg3))
      ∧ θ_run (Cert.Mm1RefIdeal.defs (F := Ideal)) (onTc (τ := Cert.Mm1RefIdeal.τ) (Cert.Mm1RefIdeal.main (F := Ideal))) ⟨m', fun _ => 0, g'⟩ (fun r => ∀ c : Dev Cert.Mm1RefIdeal.nD,
          r.2.mem ((c.tc : Thread Cert.Mm1RefIdeal.nD Cert.Mm1RefIdeal.τ).loc Cert.Mm1RefIdeal.main_v1) = v0 c
          ∧ r.2.mem ((c.tc : Thread Cert.Mm1RefIdeal.nD Cert.Mm1RefIdeal.τ).loc Cert.Mm1RefIdeal.main_v5) = v1 c
          ∧ r.2.mem ((c.tc : Thread Cert.Mm1RefIdeal.nD Cert.Mm1RefIdeal.τ).loc Cert.Mm1RefIdeal.main_arg0) = m' ((c.tc : Thread Cert.Mm1RefIdeal.nD Cert.Mm1RefIdeal.τ).loc Cert.Mm1RefIdeal.main_arg0)
          ∧ r.2.mem ((c.tc : Thread Cert.Mm1RefIdeal.nD Cert.Mm1RefIdeal.τ).loc Cert.Mm1RefIdeal.main_arg1) = m' ((c.tc : Thread Cert.Mm1RefIdeal.nD Cert.Mm1RefIdeal.τ).loc Cert.Mm1RefIdeal.main_arg1)
          ∧ r.2.mem ((c.tc : Thread Cert.Mm1RefIdeal.nD Cert.Mm1RefIdeal.τ).loc Cert.Mm1RefIdeal.main_arg2) = m' ((c.tc : Thread Cert.Mm1RefIdeal.nD Cert.Mm1RefIdeal.τ).loc Cert.Mm1RefIdeal.main_arg2)
          ∧ r.2.mem ((c.tc : Thread Cert.Mm1RefIdeal.nD Cert.Mm1RefIdeal.τ).loc Cert.Mm1RefIdeal.main_arg3) = m' ((c.tc : Thread Cert.Mm1RefIdeal.nD Cert.Mm1RefIdeal.τ).loc Cert.Mm1RefIdeal.main_arg3))

def preserves_Mm2_Mm2Ideal : Prop :=
  True

def algebraic_Mm2Ideal_Mm2RefIdeal [hMm2Ideal : Cert.Mm2Ideal.Facts] [hMm2RefIdeal : Cert.Mm2RefIdeal.Facts] : Prop :=
  ∀ (m : (ℓ : Loc Cert.Mm2Ideal.nD Cert.Mm2Ideal.τ Cert.Mm2Ideal.sig) → Buf (Elt Ideal) ℓ) (g : Dev Cert.Mm2Ideal.nD → PrngReg)
    (m' : (ℓ : Loc Cert.Mm2RefIdeal.nD Cert.Mm2RefIdeal.τ Cert.Mm2RefIdeal.sig) → Buf (Elt Ideal) ℓ) (g' : Dev Cert.Mm2RefIdeal.nD → PrngReg), Pre_Mm2Ideal m →
    (∀ c : Dev Cert.Mm2Ideal.nD,
      m' ((c.tc : Thread Cert.Mm2RefIdeal.nD Cert.Mm2RefIdeal.τ).loc Cert.Mm2RefIdeal.main_arg0) = m ((c.tc : Thread Cert.Mm2Ideal.nD Cert.Mm2Ideal.τ).loc Cert.Mm2Ideal.main_arg0)
      ∧ m' ((c.tc : Thread Cert.Mm2RefIdeal.nD Cert.Mm2RefIdeal.τ).loc Cert.Mm2RefIdeal.main_arg1) = m ((c.tc : Thread Cert.Mm2Ideal.nD Cert.Mm2Ideal.τ).loc Cert.Mm2Ideal.main_arg1)
      ∧ m' ((c.tc : Thread Cert.Mm2RefIdeal.nD Cert.Mm2RefIdeal.τ).loc Cert.Mm2RefIdeal.main_arg2) = m ((c.tc : Thread Cert.Mm2Ideal.nD Cert.Mm2Ideal.τ).loc Cert.Mm2Ideal.main_arg2)
      ∧ m' ((c.tc : Thread Cert.Mm2RefIdeal.nD Cert.Mm2RefIdeal.τ).loc Cert.Mm2RefIdeal.main_arg3) = m ((c.tc : Thread Cert.Mm2Ideal.nD Cert.Mm2Ideal.τ).loc Cert.Mm2Ideal.main_arg3)
      ∧ m' ((c.tc : Thread Cert.Mm2RefIdeal.nD Cert.Mm2RefIdeal.τ).loc Cert.Mm2RefIdeal.main_arg4) = m ((c.tc : Thread Cert.Mm2Ideal.nD Cert.Mm2Ideal.τ).loc Cert.Mm2Ideal.main_arg4)) →
    ∃ (v0 : (c : Dev Cert.Mm2Ideal.nD) → Buf (Elt Ideal) ((c.tc : Thread Cert.Mm2Ideal.nD Cert.Mm2Ideal.τ).loc Cert.Mm2Ideal.main_v4_0)) (v1 : (c : Dev Cert.Mm2Ideal.nD) → Buf (Elt Ideal) ((c.tc : Thread Cert.Mm2Ideal.nD Cert.Mm2Ideal.τ).loc Cert.Mm2Ideal.main_v4_1)),
      θ_run (Cert.Mm2Ideal.defs (F := Ideal)) (onTc (τ := Cert.Mm2Ideal.τ) (Cert.Mm2Ideal.main (F := Ideal))) ⟨m, fun _ => 0, g⟩ (fun r => ∀ c : Dev Cert.Mm2Ideal.nD,
          r.2.mem ((c.tc : Thread Cert.Mm2Ideal.nD Cert.Mm2Ideal.τ).loc Cert.Mm2Ideal.main_v4_0) = v0 c
          ∧ r.2.mem ((c.tc : Thread Cert.Mm2Ideal.nD Cert.Mm2Ideal.τ).loc Cert.Mm2Ideal.main_v4_1) = v1 c
          ∧ r.2.mem ((c.tc : Thread Cert.Mm2Ideal.nD Cert.Mm2Ideal.τ).loc Cert.Mm2Ideal.main_arg0) = m ((c.tc : Thread Cert.Mm2Ideal.nD Cert.Mm2Ideal.τ).loc Cert.Mm2Ideal.main_arg0)
          ∧ r.2.mem ((c.tc : Thread Cert.Mm2Ideal.nD Cert.Mm2Ideal.τ).loc Cert.Mm2Ideal.main_arg1) = m ((c.tc : Thread Cert.Mm2Ideal.nD Cert.Mm2Ideal.τ).loc Cert.Mm2Ideal.main_arg1)
          ∧ r.2.mem ((c.tc : Thread Cert.Mm2Ideal.nD Cert.Mm2Ideal.τ).loc Cert.Mm2Ideal.main_arg2) = m ((c.tc : Thread Cert.Mm2Ideal.nD Cert.Mm2Ideal.τ).loc Cert.Mm2Ideal.main_arg2)
          ∧ r.2.mem ((c.tc : Thread Cert.Mm2Ideal.nD Cert.Mm2Ideal.τ).loc Cert.Mm2Ideal.main_arg3) = m ((c.tc : Thread Cert.Mm2Ideal.nD Cert.Mm2Ideal.τ).loc Cert.Mm2Ideal.main_arg3)
          ∧ r.2.mem ((c.tc : Thread Cert.Mm2Ideal.nD Cert.Mm2Ideal.τ).loc Cert.Mm2Ideal.main_arg4) = m ((c.tc : Thread Cert.Mm2Ideal.nD Cert.Mm2Ideal.τ).loc Cert.Mm2Ideal.main_arg4))
      ∧ θ_run (Cert.Mm2RefIdeal.defs (F := Ideal)) (onTc (τ := Cert.Mm2RefIdeal.τ) (Cert.Mm2RefIdeal.main (F := Ideal))) ⟨m', fun _ => 0, g'⟩ (fun r => ∀ c : Dev Cert.Mm2RefIdeal.nD,
          r.2.mem ((c.tc : Thread Cert.Mm2RefIdeal.nD Cert.Mm2RefIdeal.τ).loc Cert.Mm2RefIdeal.main_v6) = v0 c
          ∧ r.2.mem ((c.tc : Thread Cert.Mm2RefIdeal.nD Cert.Mm2RefIdeal.τ).loc Cert.Mm2RefIdeal.main_v10) = v1 c
          ∧ r.2.mem ((c.tc : Thread Cert.Mm2RefIdeal.nD Cert.Mm2RefIdeal.τ).loc Cert.Mm2RefIdeal.main_arg0) = m' ((c.tc : Thread Cert.Mm2RefIdeal.nD Cert.Mm2RefIdeal.τ).loc Cert.Mm2RefIdeal.main_arg0)
          ∧ r.2.mem ((c.tc : Thread Cert.Mm2RefIdeal.nD Cert.Mm2RefIdeal.τ).loc Cert.Mm2RefIdeal.main_arg1) = m' ((c.tc : Thread Cert.Mm2RefIdeal.nD Cert.Mm2RefIdeal.τ).loc Cert.Mm2RefIdeal.main_arg1)
          ∧ r.2.mem ((c.tc : Thread Cert.Mm2RefIdeal.nD Cert.Mm2RefIdeal.τ).loc Cert.Mm2RefIdeal.main_arg2) = m' ((c.tc : Thread Cert.Mm2RefIdeal.nD Cert.Mm2RefIdeal.τ).loc Cert.Mm2RefIdeal.main_arg2)
          ∧ r.2.mem ((c.tc : Thread Cert.Mm2RefIdeal.nD Cert.Mm2RefIdeal.τ).loc Cert.Mm2RefIdeal.main_arg3) = m' ((c.tc : Thread Cert.Mm2RefIdeal.nD Cert.Mm2RefIdeal.τ).loc Cert.Mm2RefIdeal.main_arg3)
          ∧ r.2.mem ((c.tc : Thread Cert.Mm2RefIdeal.nD Cert.Mm2RefIdeal.τ).loc Cert.Mm2RefIdeal.main_arg4) = m' ((c.tc : Thread Cert.Mm2RefIdeal.nD Cert.Mm2RefIdeal.τ).loc Cert.Mm2RefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v3) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def Claim : Prop :=
  ∃ (hEdge : Cert.Edge.Facts) (hEdgeIdeal : Cert.EdgeIdeal.Facts) (hEdgeRefIdeal : Cert.EdgeRefIdeal.Facts) (hMm1 : Cert.Mm1.Facts) (hMm1Ideal : Cert.Mm1Ideal.Facts) (hMm1RefIdeal : Cert.Mm1RefIdeal.Facts) (hMm2 : Cert.Mm2.Facts) (hMm2Ideal : Cert.Mm2Ideal.Facts) (hMm2RefIdeal : Cert.Mm2RefIdeal.Facts) (hFinal : Cert.Final.Facts) (hFinalIdeal : Cert.FinalIdeal.Facts) (hFinalRefIdeal : Cert.FinalRefIdeal.Facts) (hPre_edge_rows : Cert.Pre_edge_rows.Facts),
    quiescent_Edge (hEdge := hEdge) (hPre_edge_rows := hPre_edge_rows)
    ∧ quiescent_EdgeIdeal (hEdgeIdeal := hEdgeIdeal) (hPre_edge_rows := hPre_edge_rows)
    ∧ quiescent_EdgeRefIdeal (hEdgeRefIdeal := hEdgeRefIdeal)
    ∧ quiescent_EdgeRefIdeal_pre_edge_rows (hEdgeRefIdeal := hEdgeRefIdeal) (hPre_edge_rows := hPre_edge_rows)
    ∧ quiescent_Mm1 (hMm1 := hMm1)
    ∧ quiescent_Mm1Ideal (hMm1Ideal := hMm1Ideal)
    ∧ quiescent_Mm1RefIdeal (hMm1RefIdeal := hMm1RefIdeal)
    ∧ quiescent_Mm2 (hMm2 := hMm2)
    ∧ quiescent_Mm2Ideal (hMm2Ideal := hMm2Ideal)
    ∧ quiescent_Mm2RefIdeal (hMm2RefIdeal := hMm2RefIdeal)
    ∧ quiescent_Final (hFinal := hFinal)
    ∧ quiescent_FinalIdeal (hFinalIdeal := hFinalIdeal)
    ∧ quiescent_FinalRefIdeal (hFinalRefIdeal := hFinalRefIdeal)
    ∧ preserves_Edge_EdgeIdeal
    ∧ algebraic_EdgeIdeal_EdgeRefIdeal (hEdgeIdeal := hEdgeIdeal) (hEdgeRefIdeal := hEdgeRefIdeal) (hPre_edge_rows := hPre_edge_rows)
    ∧ preserves_Mm1_Mm1Ideal
    ∧ algebraic_Mm1Ideal_Mm1RefIdeal (hMm1Ideal := hMm1Ideal) (hMm1RefIdeal := hMm1RefIdeal)
    ∧ preserves_Mm2_Mm2Ideal
    ∧ algebraic_Mm2Ideal_Mm2RefIdeal (hMm2Ideal := hMm2Ideal) (hMm2RefIdeal := hMm2RefIdeal)
    ∧ preserves_Final_FinalIdeal
    ∧ algebraic_FinalIdeal_FinalRefIdeal (hFinalIdeal := hFinalIdeal) (hFinalRefIdeal := hFinalRefIdeal)
-- ==== Pre_edge_rows.lean ====
abbrev S80000x128 : Shape := ⟨2, ![80000, 128]⟩
abbrev S327680 : Shape := ⟨1, ![327680]⟩
abbrev S4096x80 : Shape := ⟨2, ![4096, 80]⟩
abbrev S10000x128 : Shape := ⟨2, ![10000, 128]⟩
abbrev S_ : Shape := ⟨0, ![]⟩

class Facts : Prop where
  bcast_S_S327680 : S_.BroadcastsInDim S327680 (![] : Fin 0 → Fin S327680.rank)

variable [Facts]

def fn {F : FTy → Type} [FloatOps F] (main_arg0 : FVec F S80000x128 .f32) (main_arg1 : IVec S327680 32) (main_arg2 : IVec S4096x80 32) (main_arg3 : FVec F S327680 .f32) (main_arg4 : FVec F S10000x128 .f32) : IVec S327680 1 :=
  let main_c : IVec S_ 32 := constantI S_ 32 0#32
  let main_v0 : IVec S327680 32 := broadcastInDim S327680 ![] bcast_S_S327680 main_c
  let main_v1 : IVec S327680 1 := cmpi .sge main_arg1 main_v0
  let main_c_0 : IVec S_ 32 := constantI S_ 32 80000#32
  let main_v2 : IVec S327680 32 := broadcastInDim S327680 ![] bcast_S_S327680 main_c_0
  let main_v3 : IVec S327680 1 := cmpi .slt main_arg1 main_v2
  let main_v4 : IVec S327680 1 := andi main_v1 main_v3
  main_v4
-- ==== Edge.lean ====
abbrev S80000x128 : Shape := ⟨2, ![80000, 128]⟩
abbrev S327680 : Shape := ⟨1, ![327680]⟩
abbrev S4096x80 : Shape := ⟨2, ![4096, 80]⟩
abbrev S10000x128 : Shape := ⟨2, ![10000, 128]⟩
abbrev S327680x128 : Shape := ⟨2, ![327680, 128]⟩
abbrev S20000x128 : Shape := ⟨2, ![20000, 128]⟩
abbrev S2560 : Shape := ⟨1, ![2560]⟩
abbrev S32x80 : Shape := ⟨2, ![32, 80]⟩
abbrev S160x128 : Shape := ⟨2, ![160, 128]⟩
abbrev S_ : Shape := ⟨0, ![]⟩
abbrev S624x128 : Shape := ⟨2, ![624, 128]⟩
abbrev S16x128 : Shape := ⟨2, ![16, 128]⟩
abbrev S160 : Shape := ⟨1, ![160]⟩
abbrev S16 : Shape := ⟨1, ![16]⟩
abbrev S1x16 : Shape := ⟨2, ![1, 16]⟩
abbrev S80x128 : Shape := ⟨2, ![80, 128]⟩

abbrev nBuf : Table → Nat
  | .hbm => 7
  | .shared => 1
  | .local .scVector .vmem => 5
  | _ => 0

abbrev bufTy : (tb : Table) → Fin (nBuf tb) → BufTy
  | .hbm, ⟨0, _⟩ => ⟨S80000x128, .f32⟩
  | .hbm, ⟨1, _⟩ => ⟨S327680, .i32⟩
  | .hbm, ⟨2, _⟩ => ⟨S4096x80, .i32⟩
  | .hbm, ⟨3, _⟩ => ⟨S327680, .f32⟩
  | .hbm, ⟨4, _⟩ => ⟨S10000x128, .f32⟩
  | .hbm, ⟨5, _⟩ => ⟨S327680x128, .f32⟩
  | .hbm, ⟨6, _⟩ => ⟨S20000x128, .f32⟩
  | .shared, ⟨0, _⟩ => ⟨S10000x128, .f32⟩
  | .local .scVector .vmem, ⟨0, _⟩ => ⟨S2560, .i32⟩
  | .local .scVector .vmem, ⟨1, _⟩ => ⟨S32x80, .i32⟩
  | .local .scVector .vmem, ⟨2, _⟩ => ⟨S2560, .f32⟩
  | .local .scVector .vmem, ⟨3, _⟩ => ⟨S160x128, .f32⟩
  | .local .scVector .vmem, ⟨4, _⟩ => ⟨S160x128, .f32⟩
  | _, _ => ⟨S80000x128, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 5, rfl⟩
abbrev main_v0_1_scv : Ref sig .scVector := ⟨.hbm, 6, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c624_i32_0 : BitVec 32 := 624#32
  let v3 : BitVec 32 := Scalar.muli arg1 c624_i32_0
  let c0_i32_7_r0 : BitVec 32 := 0#32
  ![v3.toNat, 0]
@[reducible] def k0_t1_loop : Scf.Loop 32 :=
  let c0_i32_1 : BitVec 32 := 0#32
  let c4_i32 : BitVec 32 := 4#32
  let v7 : BitVec 32 := Scalar.addi c0_i32_1 c4_i32
  let c1_i32 : BitVec 32 := 1#32
  ⟨c0_i32_1, v7, c1_i32⟩
def k0_off2 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10240_i32 : BitVec 32 := 10240#32
  let v15 : BitVec 32 := Scalar.muli v1 c10240_i32
  let c0_i32_1 : BitVec 32 := 0#32
  let c1_i32 : BitVec 32 := 1#32
  let arg21 : BitVec 32 := Scf.iv c0_i32_1 c1_i32 k0_t1
  let c2560_i32 : BitVec 32 := 2560#32
  let v16 : BitVec 32 := Scalar.muli arg21 c2560_i32
  let v17 : BitVec 32 := Scalar.addi v15 v16
  ![v17.toNat]
def k0_mult1 (i : grid0.Coords) (k0_t1 : Fin k0_t1_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10240_i32 : BitVec 32 := 10240#32
  let v15 : BitVec 32 := Scalar.muli v1 c10240_i32
  let c0_i32_1 : BitVec 32 := 0#32
  let c1_i32 : BitVec 32 := 1#32
  let arg21 : BitVec 32 := Scf.iv c0_i32_1 c1_i32 k0_t1
  let c2560_i32 : BitVec 32 := 2560#32
  let v16 : BitVec 32 := Scalar.muli arg21 c2560_i32
  let v17 : BitVec 32 := Scalar.addi v15 v16
  let c0_i32_7 : BitVec 32 := 0#32
  let v23 : BitVec 1 := Scalar.cmpi .sgt v17 c0_i32_7
  let v24 : BitVec 32 := Scalar.extui v23
  let c0_i32_8 : BitVec 32 := 0#32
  let v25 : BitVec 1 := Scalar.cmpi .slt v17 c0_i32_8
  let v26 : BitVec 32 := Scalar.extui v25
  let v27 : BitVec 32 := Scalar.subi v24 v26
  let c80_i32 : BitVec 32 := 80#32
  let c0_i32_9 : BitVec 32 := 0#32
  let v28 : BitVec 1 := Scalar.cmpi .sgt c80_i32 c0_i32_9
  let v29 : BitVec 32 := Scalar.extui v28
  let c0_i32_10 : BitVec 32 := 0#32
  let v30 : BitVec 1 := Scalar.cmpi .slt c80_i32 c0_i32_10
  let v31 : BitVec 32 := Scalar.extui v30
  let v32 : BitVec 32 := Scalar.subi v29 v31
  let v33 : BitVec 1 := Scalar.cmpi .ne v27 v32
  let v34 : BitVec 32 := Scalar.remsi v17 c80_i32
  let c0_i32_11 : BitVec 32 := 0#32
  let v35 : BitVec 1 := Scalar.cmpi .ne v34 c0_i32_11
  let v36 : BitVec 1 := Scalar.andi v33 v35
  let v22 : BitVec 32 := Scalar.divsi v17 c80_i32
  let c1_i32_12 : BitVec 32 := 1#32
  let v37 : BitVec 32 := Scalar.subi v22 c1_i32_12
  let v38 : BitVec 32 := Scalar.select v36 v37 v22
  v38
def k0_off3 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10240_i32 : BitVec 32 := 10240#32
  let v15 : BitVec 32 := Scalar.muli v1 c10240_i32
  let c0_i32_1 : BitVec 32 := 0#32
  let c1_i32 : BitVec 32 := 1#32
  let arg21 : BitVec 32 := Scf.iv c0_i32_1 c1_i32 k0_t1
  let c2560_i32 : BitVec 32 := 2560#32
  let v16 : BitVec 32 := Scalar.muli arg21 c2560_i32
  let v17 : BitVec 32 := Scalar.addi v15 v16
  let c0_i32_7 : BitVec 32 := 0#32
  let v23 : BitVec 1 := Scalar.cmpi .sgt v17 c0_i32_7
  let v24 : BitVec 32 := Scalar.extui v23
  let c0_i32_8 : BitVec 32 := 0#32
  let v25 : BitVec 1 := Scalar.cmpi .slt v17 c0_i32_8
  let v26 : BitVec 32 := Scalar.extui v25
  let v27 : BitVec 32 := Scalar.subi v24 v26
  let c80_i32 : BitVec 32 := 80#32
  let c0_i32_9 : BitVec 32 := 0#32
  let v28 : BitVec 1 := Scalar.cmpi .sgt c80_i32 c0_i32_9
  let v29 : BitVec 32 := Scalar.extui v28
  let c0_i32_10 : BitVec 32 := 0#32
  let v30 : BitVec 1 := Scalar.cmpi .slt c80_i32 c0_i32_10
  let v31 : BitVec 32 := Scalar.extui v30
  let v32 : BitVec 32 := Scalar.subi v29 v31
  let v33 : BitVec 1 := Scalar.cmpi .ne v27 v32
  let v34 : BitVec 32 := Scalar.remsi v17 c80_i32
  let c0_i32_11 : BitVec 32 := 0#32
  let v35 : BitVec 1 := Scalar.cmpi .ne v34 c0_i32_11
  let v36 : BitVec 1 := Scalar.andi v33 v35
  let v22 : BitVec 32 := Scalar.divsi v17 c80_i32
  let c1_i32_12 : BitVec 32 := 1#32
  let v37 : BitVec 32 := Scalar.subi v22 c1_i32_12
  let v38 : BitVec 32 := Scalar.select v36 v37 v22
  let v39 : BitVec 32 := v38
  let c0_i32_13 : BitVec 32 := 0#32
  ![v39.toNat, 0]
@[reducible] def k0_t2_loop : Scf.Loop 32 :=
  let c0_i32_25 : BitVec 32 := 0#32
  let c160_i32_26 : BitVec 32 := 160#32
  let v54 : BitVec 32 := Scalar.addi c0_i32_25 c160_i32_26
  let c1_i32_27 : BitVec 32 := 1#32
  ⟨c0_i32_25, v54, c1_i32_27⟩

def k0_chk1 (v433 : IVec S16 32) : Prop :=
  (∀ a x, ((![v433] : Fin 1 → IVec S16 32) a x).toNat < S2560.size a)
theorem k0_idx1_inb : ∀ (v433 : IVec S16 32) (k0_hw1 : k0_chk1 v433), ∀ a x, ((![v433] : Fin 1 → IVec S16 32) a x).toNat < S2560.size a := fun v433 k0_hw1 => k0_hw1
def k0_off4 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v435 : Index := Scalar.indexCast arg22
  let c0_595 : Index := 0#32
  ![v435.toNat, 0]
def k0_off5 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v440 : Index := Scalar.indexCast arg22
  let c16 : Index := 16#32
  ![v440.toNat, 16]
def k0_off6 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v445 : Index := Scalar.indexCast arg22
  let c32 : Index := 32#32
  ![v445.toNat, 32]
def k0_off7 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v450 : Index := Scalar.indexCast arg22
  let c48 : Index := 48#32
  ![v450.toNat, 48]
def k0_off8 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v455 : Index := Scalar.indexCast arg22
  let c64 : Index := 64#32
  ![v455.toNat, 64]
def k0_off9 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v460 : Index := Scalar.indexCast arg22
  let c80 : Index := 80#32
  ![v460.toNat, 80]
def k0_off10 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v465 : Index := Scalar.indexCast arg22
  let c96 : Index := 96#32
  ![v465.toNat, 96]
def k0_off11 (k0_t2 : Fin k0_t2_loop.trips) : Fin 2 → Nat :=
  let c0_i32_25 : BitVec 32 := 0#32
  let c1_i32_27 : BitVec 32 := 1#32
  let arg22 : BitVec 32 := Scf.iv c0_i32_25 c1_i32_27 k0_t2
  let v470 : Index := Scalar.indexCast arg22
  let c112 : Index := 112#32
  ![v470.toNat, 112]
def k0_off12 (i : grid0.Coords) (k0_t1 : Fin k0_t1_loop.trips) (c0_i32_29 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10240_i32 : BitVec 32 := 10240#32
  let v15 : BitVec 32 := Scalar.muli v1 c10240_i32
  let c0_i32_1 : BitVec 32 := 0#32
  let c1_i32 : BitVec 32 := 1#32
  let arg21 : BitVec 32 := Scf.iv c0_i32_1 c1_i32 k0_t1
  let c2560_i32 : BitVec 32 := 2560#32
  let v16 : BitVec 32 := Scalar.muli arg21 c2560_i32
  let v17 : BitVec 32 := Scalar.addi v15 v16
  let v55 : BitVec 32 := Scalar.addi v17 c0_i32_29
  let c0_i32_32 : BitVec 32 := 0#32
  ![v55.toNat, 0]
def k0_off13 (i : grid0.Coords) (k0_t1 : Fin k0_t1_loop.trips) (c0_i32_36 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c10240_i32 : BitVec 32 := 10240#32
  let v15 : BitVec 32 := Scalar.muli v1 c10240_i32
  let c0_i32_1 : BitVec 32 := 0#32
  let c1_i32 : BitVec 32 := 1#32
  let arg21 : BitVec 32 := Scf.iv c0_i32_1 c1_i32 k0_t1
  let c2560_i32 : BitVec 32 := 2560#32
  let v16 : BitVec 32 := Scalar.muli arg21 c2560_i32
  let v17 : BitVec 32 := Scalar.addi v15 v16
  let v60 : BitVec 32 := Scalar.addi v17 c0_i32_36
  let c80_i32_37 : BitVec 32 := 80#32
  let v61 : BitVec 32 := Scalar.addi v60 c80_i32_37
  let c0_i32_40 : BitVec 32 := 0#32
  ![v61.toNat, 0]
@[reducible] def k0_t3_loop : Scf.Loop 32 :=
  let c0_i32_61 : BitVec 32 := 0#32
  let c160_i32_62 : BitVec 32 := 160#32
  let v78 : BitVec 32 := Scalar.addi c0_i32_61 c160_i32_62
  let c1_i32_63 : BitVec 32 := 1#32
  ⟨c0_i32_61, v78, c1_i32_63⟩

def k0_chk2 (v433 : IVec S16 32) : Prop :=
  (∀ a x, ((![v433] : Fin 1 → IVec S16 32) a x).toNat < S2560.size a)
theorem k0_idx2_inb : ∀ (v433 : IVec S16 32) (k0_hw2 : k0_chk2 v433), ∀ a x, ((![v433] : Fin 1 → IVec S16 32) a x).toNat < S2560.size a := fun v433 k0_hw2 => k0_hw2
def k0_off14 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v435 : Index := Scalar.indexCast arg22
  let c0_595 : Index := 0#32
  ![v435.toNat, 0]
def k0_off15 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v440 : Index := Scalar.indexCast arg22
  let c16 : Index := 16#32
  ![v440.toNat, 16]
def k0_off16 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v445 : Index := Scalar.indexCast arg22
  let c32 : Index := 32#32
  ![v445.toNat, 32]
def k0_off17 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v450 : Index := Scalar.indexCast arg22
  let c48 : Index := 48#32
  ![v450.toNat, 48]
def k0_off18 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v455 : Index := Scalar.indexCast arg22
  let c64 : Index := 64#32
  ![v455.toNat, 64]
def k0_off19 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v460 : Index := Scalar.indexCast arg22
  let c80 : Index := 80#32
  ![v460.toNat, 80]
def k0_off20 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v465 : Index := Scalar.indexCast arg22
  let c96 : Index := 96#32
  ![v465.toNat, 96]
def k0_off21 (k0_t3 : Fin k0_t3_loop.trips) : Fin 2 → Nat :=
  let c0_i32_61 : BitVec 32 := 0#32
  let c1_i32_63 : BitVec 32 := 1#32
  let arg22 : BitVec 32 := Scf.iv c0_i32_61 c1_i32_63 k0_t3
  let v470 : Index := Scalar.indexCast arg22
  let c112 : Index := 112#32
  ![v470.toNat, 112]
@[reducible] def k0_t4_loop : Scf.Loop 32 :=
  let c0_i32_97 : BitVec 32 := 0#32
  let c160_i32_98 : BitVec 32 := 160#32
  let v102 : BitVec 32 := Scalar.addi c0_i32_97 c160_i32_98
  let c1_i32_99 : BitVec 32 := 1#32
  ⟨c0_i32_97, v102, c1_i32_99⟩

def k0_chk3 (v433 : IVec S16 32) : Prop :=
  (∀ a x, ((![v433] : Fin 1 → IVec S16 32) a x).toNat < S2560.size a)
theorem k0_idx3_inb : ∀ (v433 : IVec S16 32) (k0_hw3 : k0_chk3 v433), ∀ a x, ((![v433] : Fin 1 → IVec S16 32) a x).toNat < S2560.size a := fun v433 k0_hw3 => k0_hw3
def k0_off22 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v435 : Index := Scalar.indexCast arg22
  let c0_595 : Index := 0#32
  ![v435.toNat, 0]
def k0_off23 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v440 : Index := Scalar.indexCast arg22
  let c16 : Index := 16#32
  ![v440.toNat, 16]
def k0_off24 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v445 : Index := Scalar.indexCast arg22
  let c32 : Index := 32#32
  ![v445.toNat, 32]
def k0_off25 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v450 : Index := Scalar.indexCast arg22
  let c48 : Index := 48#32
  ![v450.toNat, 48]
def k0_off26 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v455 : Index := Scalar.indexCast arg22
  let c64 : Index := 64#32
  ![v455.toNat, 64]
def k0_off27 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v460 : Index := Scalar.indexCast arg22
  let c80 : Index := 80#32
  ![v460.toNat, 80]
def k0_off28 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v465 : Index := Scalar.indexCast arg22
  let c96 : Index := 96#32
  ![v465.toNat, 96]
def k0_off29 (k0_t4 : Fin k0_t4_loop.trips) : Fin 2 → Nat :=
  let c0_i32_97 : BitVec 32 := 0#32
  let c1_i32_99 : BitVec 32 := 1#32
  let arg22 : BitVec 32 := Scf.iv c0_i32_97 c1_i32_99 k0_t4
  let v470 : Index := Scalar.indexCast arg22
  let c112 : Index := 112#32
  ![v470.toNat, 112]
@[reducible] def k0_t5_loop : Scf.Loop 32 :=
  let c0_i32_133 : BitVec 32 := 0#32
  let c160_i32_134 : BitVec 32 := 160#32
  let v126 : BitVec 32 := Scalar.addi c0_i32_133 c160_i32_134
  let c1_i32_135 : BitVec 32 := 1#32
  ⟨c0_i32_133, v126, c1_i32_135⟩

def k0_chk4 (v433 : IVec S16 32) : Prop :=
  (∀ a x, ((![v433] : Fin 1 → IVec S16 32) a x).toNat < S2560.size a)
theorem k0_idx4_inb : ∀ (v433 : IVec S16 32) (k0_hw4 : k0_chk4 v433), ∀ a x, ((![v433] : Fin 1 → IVec S16 32) a x).toNat < S2560.size a := fun v433 k0_hw4 => k0_hw4
def k0_off30 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v435 : Index := Scalar.indexCast arg22
  let c0_595 : Index := 0#32
  ![v435.toNat, 0]
def k0_off31 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v440 : Index := Scalar.indexCast arg22
  let c16 : Index := 16#32
  ![v440.toNat, 16]
def k0_off32 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v445 : Index := Scalar.indexCast arg22
  let c32 : Index := 32#32
  ![v445.toNat, 32]
def k0_off33 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v450 : Index := Scalar.indexCast arg22
  let c48 : Index := 48#32
  ![v450.toNat, 48]
def k0_off34 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v455 : Index := Scalar.indexCast arg22
  let c64 : Index := 64#32
  ![v455.toNat, 64]
def k0_off35 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v460 : Index := Scalar.indexCast arg22
  let c80 : Index := 80#32
  ![v460.toNat, 80]
def k0_off36 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v465 : Index := Scalar.indexCast arg22
  let c96 : Index := 96#32
  ![v465.toNat, 96]
def k0_off37 (k0_t5 : Fin k0_t5_loop.trips) : Fin 2 → Nat :=
  let c0_i32_133 : BitVec 32 := 0#32
  let c1_i32_135 : BitVec 32 := 1#32
  let arg22 : BitVec 32 := Scf.iv c0_i32_133 c1_i32_135 k0_t5
  let v470 : Index := Scalar.indexCast arg22
  let c112 : Index := 112#32
  ![v470.toNat, 112]
@[reducible] def k0_t6_loop : Scf.Loop 32 :=
  let c0_i32_169 : BitVec 32 := 0#32
  let c160_i32_170 : BitVec 32 := 160#32
  let v150 : BitVec 32 := Scalar.addi c0_i32_169 c160_i32_170
  let c1_i32_171 : BitVec 32 := 1#32
  ⟨c0_i32_169, v150, c1_i32_171⟩

def k0_chk5 (v433 : IVec S16 32) : Prop :=
  (∀ a x, ((![v433] : Fin 1 → IVec S16 32) a x).toNat < S2560.size a)
theorem k0_idx5_inb : ∀ (v433 : IVec S16 32) (k0_hw5 : k0_chk5 v433), ∀ a x, ((![v433] : Fin 1 → IVec S16 32) a x).toNat < S2560.size a := fun v433 k0_hw5 => k0_hw5
def k0_off38 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v435 : Index := Scalar.indexCast arg22
  let c0_595 : Index := 0#32
  ![v435.toNat, 0]
def k0_off39 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v440 : Index := Scalar.indexCast arg22
  let c16 : Index := 16#32
  ![v440.toNat, 16]
def k0_off40 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v445 : Index := Scalar.indexCast arg22
  let c32 : Index := 32#32
  ![v445.toNat, 32]
def k0_off41 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v450 : Index := Scalar.indexCast arg22
  let c48 : Index := 48#32
  ![v450.toNat, 48]
def k0_off42 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v455 : Index := Scalar.indexCast arg22
  let c64 : Index := 64#32
  ![v455.toNat, 64]
def k0_off43 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v460 : Index := Scalar.indexCast arg22
  let c80 : Index := 80#32
  ![v460.toNat, 80]
def k0_off44 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v465 : Index := Scalar.indexCast arg22
  let c96 : Index := 96#32
  ![v465.toNat, 96]
def k0_off45 (k0_t6 : Fin k0_t6_loop.trips) : Fin 2 → Nat :=
  let c0_i32_169 : BitVec 32 := 0#32
  let c1_i32_171 : BitVec 32 := 1#32
  let arg22 : BitVec 32 := Scf.iv c0_i32_169 c1_i32_171 k0_t6
  let v470 : Index := Scalar.indexCast arg22
  let c112 : Index := 112#32
  ![v470.toNat, 112]
@[reducible] def k0_t7_loop : Scf.Loop 32 :=
  let c0_i32_205 : BitVec 32 := 0#32
  let c160_i32_206 : BitVec 32 := 160#32
  let v174 : BitVec 32 := Scalar.addi c0_i32_205 c160_i32_206
  let c1_i32_207 : BitVec 32 := 1#32
  ⟨c0_i32_205, v174, c1_i32_207⟩

def k0_chk6 (v433 : IVec S16 32) : Prop :=
  (∀ a x, ((![v433] : Fin 1 → IVec S16 32) a x).toNat < S2560.size a)
theorem k0_idx6_inb : ∀ (v433 : IVec S16 32) (k0_hw6 : k0_chk6 v433), ∀ a x, ((![v433] : Fin 1 → IVec S16 32) a x).toNat < S2560.size a := fun v433 k0_hw6 => k0_hw6
def k0_off46 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v435 : Index := Scalar.indexCast arg22
  let c0_595 : Index := 0#32
  ![v435.toNat, 0]
def k0_off47 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v440 : Index := Scalar.indexCast arg22
  let c16 : Index := 16#32
  ![v440.toNat, 16]
def k0_off48 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v445 : Index := Scalar.indexCast arg22
  let c32 : Index := 32#32
  ![v445.toNat, 32]
def k0_off49 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v450 : Index := Scalar.indexCast arg22
  let c48 : Index := 48#32
  ![v450.toNat, 48]
def k0_off50 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v455 : Index := Scalar.indexCast arg22
  let c64 : Index := 64#32
  ![v455.toNat, 64]
def k0_off51 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v460 : Index := Scalar.indexCast arg22
  let c80 : Index := 80#32
  ![v460.toNat, 80]
def k0_off52 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v465 : Index := Scalar.indexCast arg22
  let c96 : Index := 96#32
  ![v465.toNat, 96]
def k0_off53 (k0_t7 : Fin k0_t7_loop.trips) : Fin 2 → Nat :=
  let c0_i32_205 : BitVec 32 := 0#32
  let c1_i32_207 : BitVec 32 := 1#32
  let arg22 : BitVec 32 := Scf.iv c0_i32_205 c1_i32_207 k0_t7
  let v470 : Index := Scalar.indexCast arg22
  let c112 : Index := 112#32
  ![v470.toNat, 112]
@[reducible] def k0_t8_loop : Scf.Loop 32 :=
  let c0_i32_241 : BitVec 32 := 0#32
  let c160_i32_242 : BitVec 32 := 160#32
  let v198 : BitVec 32 := Scalar.addi c0_i32_241 c160_i32_242
  let c1_i32_243 : BitVec 32 := 1#32
  ⟨c0_i32_241, v198, c1_i32_243⟩

def k0_chk7 (v433 : IVec S16 32) : Prop :=
  (∀ a x, ((![v433] : Fin 1 → IVec S16 32) a x).toNat < S2560.size a)
theorem k0_idx7_inb : ∀ (v433 : IVec S16 32) (k0_hw7 : k0_chk7 v433), ∀ a x, ((![v433] : Fin 1 → IVec S16 32) a x).toNat < S2560.size a := fun v433 k0_hw7 => k0_hw7
def k0_off54 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v435 : Index := Scalar.indexCast arg22
  let c0_595 : Index := 0#32
  ![v435.toNat, 0]
def k0_off55 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v440 : Index := Scalar.indexCast arg22
  let c16 : Index := 16#32
  ![v440.toNat, 16]
def k0_off56 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v445 : Index := Scalar.indexCast arg22
  let c32 : Index := 32#32
  ![v445.toNat, 32]
def k0_off57 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v450 : Index := Scalar.indexCast arg22
  let c48 : Index := 48#32
  ![v450.toNat, 48]
def k0_off58 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v455 : Index := Scalar.indexCast arg22
  let c64 : Index := 64#32
  ![v455.toNat, 64]
def k0_off59 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v460 : Index := Scalar.indexCast arg22
  let c80 : Index := 80#32
  ![v460.toNat, 80]
def k0_off60 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v465 : Index := Scalar.indexCast arg22
  let c96 : Index := 96#32
  ![v465.toNat, 96]
def k0_off61 (k0_t8 : Fin k0_t8_loop.trips) : Fin 2 → Nat :=
  let c0_i32_241 : BitVec 32 := 0#32
  let c1_i32_243 : BitVec 32 := 1#32
  let arg22 : BitVec 32 := Scf.iv c0_i32_241 c1_i32_243 k0_t8
  let v470 : Index := Scalar.indexCast arg22
  let c112 : Index := 112#32
  ![v470.toNat, 112]
@[reducible] def k0_t9_loop : Scf.Loop 32 :=
  let c0_i32_277 : BitVec 32 := 0#32
  let c160_i32_278 : BitVec 32 := 160#32
  let v222 : BitVec 32 := Scalar.addi c0_i32_277 c160_i32_278
  let c1_i32_279 : BitVec 32 := 1#32
  ⟨c0_i32_277, v222, c1_i32_279⟩

def k0_chk8 (v433 : IVec S16 32) : Prop :=
  (∀ a x, ((![v433] : Fin 1 → IVec S16 32) a x).toNat < S2560.size a)
theorem k0_idx8_inb : ∀ (v433 : IVec S16 32) (k0_hw8 : k0_chk8 v433), ∀ a x, ((![v433] : Fin 1 → IVec S16 32) a x).toNat < S2560.size a := fun v433 k0_hw8 => k0_hw8
def k0_off62 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v435 : Index := Scalar.indexCast arg22
  let c0_595 : Index := 0#32
  ![v435.toNat, 0]
def k0_off63 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v440 : Index := Scalar.indexCast arg22
  let c16 : Index := 16#32
  ![v440.toNat, 16]
def k0_off64 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v445 : Index := Scalar.indexCast arg22
  let c32 : Index := 32#32
  ![v445.toNat, 32]
def k0_off65 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v450 : Index := Scalar.indexCast arg22
  let c48 : Index := 48#32
  ![v450.toNat, 48]
def k0_off66 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v455 : Index := Scalar.indexCast arg22
  let c64 : Index := 64#32
  ![v455.toNat, 64]
def k0_off67 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v460 : Index := Scalar.indexCast arg22
  let c80 : Index := 80#32
  ![v460.toNat, 80]
def k0_off68 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v465 : Index := Scalar.indexCast arg22
  let c96 : Index := 96#32
  ![v465.toNat, 96]
def k0_off69 (k0_t9 : Fin k0_t9_loop.trips) : Fin 2 → Nat :=
  let c0_i32_277 : BitVec 32 := 0#32
  let c1_i32_279 : BitVec 32 := 1#32
  let arg22 : BitVec 32 := Scf.iv c0_i32_277 c1_i32_279 k0_t9
  let v470 : Index := Scalar.indexCast arg22
  let c112 : Index := 112#32
  ![v470.toNat, 112]
@[reducible] def k0_t10_loop : Scf.Loop 32 :=
  let c0_i32_313 : BitVec 32 := 0#32
  let c160_i32_314 : BitVec 32 := 160#32
  let v246 : BitVec 32 := Scalar.addi c0_i32_313 c160_i32_314
  let c1_i32_315 : BitVec 32 := 1#32
  ⟨c0_i32_313, v246, c1_i32_315⟩

def k0_chk9 (v433 : IVec S16 32) : Prop :=
  (∀ a x, ((![v433] : Fin 1 → IVec S16 32) a x).toNat < S2560.size a)
theorem k0_idx9_inb : ∀ (v433 : IVec S16 32) (k0_hw9 : k0_chk9 v433), ∀ a x, ((![v433] : Fin 1 → IVec S16 32) a x).toNat < S2560.size a := fun v433 k0_hw9 => k0_hw9
def k0_off70 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v435 : Index := Scalar.indexCast arg22
  let c0_595 : Index := 0#32
  ![v435.toNat, 0]
def k0_off71 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v440 : Index := Scalar.indexCast arg22
  let c16 : Index := 16#32
  ![v440.toNat, 16]
def k0_off72 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v445 : Index := Scalar.indexCast arg22
  let c32 : Index := 32#32
  ![v445.toNat, 32]
def k0_off73 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v450 : Index := Scalar.indexCast arg22
  let c48 : Index := 48#32
  ![v450.toNat, 48]
def k0_off74 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v455 : Index := Scalar.indexCast arg22
  let c64 : Index := 64#32
  ![v455.toNat, 64]
def k0_off75 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v460 : Index := Scalar.indexCast arg22
  let c80 : Index := 80#32
  ![v460.toNat, 80]
def k0_off76 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v465 : Index := Scalar.indexCast arg22
  let c96 : Index := 96#32
  ![v465.toNat, 96]
def k0_off77 (k0_t10 : Fin k0_t10_loop.trips) : Fin 2 → Nat :=
  let c0_i32_313 : BitVec 32 := 0#32
  let c1_i32_315 : BitVec 32 := 1#32
  let arg22 : BitVec 32 := Scf.iv c0_i32_313 c1_i32_315 k0_t10
  let v470 : Index := Scalar.indexCast arg22
  let c112 : Index := 112#32
  ![v470.toNat, 112]
@[reducible] def k0_t11_loop : Scf.Loop 32 :=
  let c0_i32_349 : BitVec 32 := 0#32
  let c160_i32_350 : BitVec 32 := 160#32
  let v270 : BitVec 32 := Scalar.addi c0_i32_349 c160_i32_350
  let c1_i32_351 : BitVec 32 := 1#32
  ⟨c0_i32_349, v270, c1_i32_351⟩

def k0_chk10 (v433 : IVec S16 32) : Prop :=
  (∀ a x, ((![v433] : Fin 1 → IVec S16 32) a x).toNat < S2560.size a)
theorem k0_idx10_inb : ∀ (v433 : IVec S16 32) (k0_hw10 : k0_chk10 v433), ∀ a x, ((![v433] : Fin 1 → IVec S16 32) a x).toNat < S2560.size a := fun v433 k0_hw10 => k0_hw10
def k0_off78 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v435 : Index := Scalar.indexCast arg22
  let c0_595 : Index := 0#32
  ![v435.toNat, 0]
def k0_off79 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v440 : Index := Scalar.indexCast arg22
  let c16 : Index := 16#32
  ![v440.toNat, 16]
def k0_off80 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v445 : Index := Scalar.indexCast arg22
  let c32 : Index := 32#32
  ![v445.toNat, 32]
def k0_off81 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v450 : Index := Scalar.indexCast arg22
  let c48 : Index := 48#32
  ![v450.toNat, 48]
def k0_off82 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v455 : Index := Scalar.indexCast arg22
  let c64 : Index := 64#32
  ![v455.toNat, 64]
def k0_off83 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v460 : Index := Scalar.indexCast arg22
  let c80 : Index := 80#32
  ![v460.toNat, 80]
def k0_off84 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v465 : Index := Scalar.indexCast arg22
  let c96 : Index := 96#32
  ![v465.toNat, 96]
def k0_off85 (k0_t11 : Fin k0_t11_loop.trips) : Fin 2 → Nat :=
  let c0_i32_349 : BitVec 32 := 0#32
  let c1_i32_351 : BitVec 32 := 1#32
  let arg22 : BitVec 32 := Scf.iv c0_i32_349 c1_i32_351 k0_t11
  let v470 : Index := Scalar.indexCast arg22
  let c112 : Index := 112#32
  ![v470.toNat, 112]
@[reducible] def k0_t12_loop : Scf.Loop 32 :=
  let c0_i32_385 : BitVec 32 := 0#32
  let c160_i32_386 : BitVec 32 := 160#32
  let v294 : BitVec 32 := Scalar.addi c0_i32_385 c160_i32_386
  let c1_i32_387 : BitVec 32 := 1#32
  ⟨c0_i32_385, v294, c1_i32_387⟩

def k0_chk11 (v433 : IVec S16 32) : Prop :=
  (∀ a x, ((![v433] : Fin 1 → IVec S16 32) a x).toNat < S2560.size a)
theorem k0_idx11_inb : ∀ (v433 : IVec S16 32) (k0_hw11 : k0_chk11 v433), ∀ a x, ((![v433] : Fin 1 → IVec S16 32) a x).toNat < S2560.size a := fun v433 k0_hw11 => k0_hw11
def k0_off86 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v435 : Index := Scalar.indexCast arg22
  let c0_595 : Index := 0#32
  ![v435.toNat, 0]
def k0_off87 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v440 : Index := Scalar.indexCast arg22
  let c16 : Index := 16#32
  ![v440.toNat, 16]
def k0_off88 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v445 : Index := Scalar.indexCast arg22
  let c32 : Index := 32#32
  ![v445.toNat, 32]
def k0_off89 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v450 : Index := Scalar.indexCast arg22
  let c48 : Index := 48#32
  ![v450.toNat, 48]
def k0_off90 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v455 : Index := Scalar.indexCast arg22
  let c64 : Index := 64#32
  ![v455.toNat, 64]
def k0_off91 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v460 : Index := Scalar.indexCast arg22
  let c80 : Index := 80#32
  ![v460.toNat, 80]
def k0_off92 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v465 : Index := Scalar.indexCast arg22
  let c96 : Index := 96#32
  ![v465.toNat, 96]
def k0_off93 (k0_t12 : Fin k0_t12_loop.trips) : Fin 2 → Nat :=
  let c0_i32_385 : BitVec 32 := 0#32
  let c1_i32_387 : BitVec 32 := 1#32
  let arg22 : BitVec 32 := Scf.iv c0_i32_385 c1_i32_387 k0_t12
  let v470 : Index := Scalar.indexCast arg22
  let c112 : Index := 112#32
  ![v470.toNat, 112]
@[reducible] def k0_t13_loop : Scf.Loop 32 :=
  let c0_i32_421 : BitVec 32 := 0#32
  let c160_i32_422 : BitVec 32 := 160#32
  let v318 : BitVec 32 := Scalar.addi c0_i32_421 c160_i32_422
  let c1_i32_423 : BitVec 32 := 1#32
  ⟨c0_i32_421, v318, c1_i32_423⟩

def k0_chk12 (v433 : IVec S16 32) : Prop :=
  (∀ a x, ((![v433] : Fin 1 → IVec S16 32) a x).toNat < S2560.size a)
theorem k0_idx12_inb : ∀ (v433 : IVec S16 32) (k0_hw12 : k0_chk12 v433), ∀ a x, ((![v433] : Fin 1 → IVec S16 32) a x).toNat < S2560.size a := fun v433 k0_hw12 => k0_hw12
def k0_off94 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v435 : Index := Scalar.indexCast arg22
  let c0_595 : Index := 0#32
  ![v435.toNat, 0]
def k0_off95 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v440 : Index := Scalar.indexCast arg22
  let c16 : Index := 16#32
  ![v440.toNat, 16]
def k0_off96 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v445 : Index := Scalar.indexCast arg22
  let c32 : Index := 32#32
  ![v445.toNat, 32]
def k0_off97 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v450 : Index := Scalar.indexCast arg22
  let c48 : Index := 48#32
  ![v450.toNat, 48]
def k0_off98 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v455 : Index := Scalar.indexCast arg22
  let c64 : Index := 64#32
  ![v455.toNat, 64]
def k0_off99 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v460 : Index := Scalar.indexCast arg22
  let c80 : Index := 80#32
  ![v460.toNat, 80]
def k0_off100 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v465 : Index := Scalar.indexCast arg22
  let c96 : Index := 96#32
  ![v465.toNat, 96]
def k0_off101 (k0_t13 : Fin k0_t13_loop.trips) : Fin 2 → Nat :=
  let c0_i32_421 : BitVec 32 := 0#32
  let c1_i32_423 : BitVec 32 := 1#32
  let arg22 : BitVec 32 := Scf.iv c0_i32_421 c1_i32_423 k0_t13
  let v470 : Index := Scalar.indexCast arg22
  let c112 : Index := 112#32
  ![v470.toNat, 112]
@[reducible] def k0_t14_loop : Scf.Loop 32 :=
  let c0_i32_457 : BitVec 32 := 0#32
  let c160_i32_458 : BitVec 32 := 160#32
  let v342 : BitVec 32 := Scalar.addi c0_i32_457 c160_i32_458
  let c1_i32_459 : BitVec 32 := 1#32
  ⟨c0_i32_457, v342, c1_i32_459⟩

def k0_chk13 (v433 : IVec S16 32) : Prop :=
  (∀ a x, ((![v433] : Fin 1 → IVec S16 32) a x).toNat < S2560.size a)
theorem k0_idx13_inb : ∀ (v433 : IVec S16 32) (k0_hw13 : k0_chk13 v433), ∀ a x, ((![v433] : Fin 1 → IVec S16 32) a x).toNat < S2560.size a := fun v433 k0_hw13 => k0_hw13
def k0_off102 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v435 : Index := Scalar.indexCast arg22
  let c0_595 : Index := 0#32
  ![v435.toNat, 0]
def k0_off103 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v440 : Index := Scalar.indexCast arg22
  let c16 : Index := 16#32
  ![v440.toNat, 16]
def k0_off104 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v445 : Index := Scalar.indexCast arg22
  let c32 : Index := 32#32
  ![v445.toNat, 32]
def k0_off105 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v450 : Index := Scalar.indexCast arg22
  let c48 : Index := 48#32
  ![v450.toNat, 48]
def k0_off106 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v455 : Index := Scalar.indexCast arg22
  let c64 : Index := 64#32
  ![v455.toNat, 64]
def k0_off107 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v460 : Index := Scalar.indexCast arg22
  let c80 : Index := 80#32
  ![v460.toNat, 80]
def k0_off108 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v465 : Index := Scalar.indexCast arg22
  let c96 : Index := 96#32
  ![v465.toNat, 96]
def k0_off109 (k0_t14 : Fin k0_t14_loop.trips) : Fin 2 → Nat :=
  let c0_i32_457 : BitVec 32 := 0#32
  let c1_i32_459 : BitVec 32 := 1#32
  let arg22 : BitVec 32 := Scf.iv c0_i32_457 c1_i32_459 k0_t14
  let v470 : Index := Scalar.indexCast arg22
  let c112 : Index := 112#32
  ![v470.toNat, 112]
@[reducible] def k0_t15_loop : Scf.Loop 32 :=
  let c0_i32_493 : BitVec 32 := 0#32
  let c160_i32_494 : BitVec 32 := 160#32
  let v366 : BitVec 32 := Scalar.addi c0_i32_493 c160_i32_494
  let c1_i32_495 : BitVec 32 := 1#32
  ⟨c0_i32_493, v366, c1_i32_495⟩

def k0_chk14 (v433 : IVec S16 32) : Prop :=
  (∀ a x, ((![v433] : Fin 1 → IVec S16 32) a x).toNat < S2560.size a)
theorem k0_idx14_inb : ∀ (v433 : IVec S16 32) (k0_hw14 : k0_chk14 v433), ∀ a x, ((![v433] : Fin 1 → IVec S16 32) a x).toNat < S2560.size a := fun v433 k0_hw14 => k0_hw14
def k0_off110 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v435 : Index := Scalar.indexCast arg22
  let c0_595 : Index := 0#32
  ![v435.toNat, 0]
def k0_off111 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v440 : Index := Scalar.indexCast arg22
  let c16 : Index := 16#32
  ![v440.toNat, 16]
def k0_off112 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v445 : Index := Scalar.indexCast arg22
  let c32 : Index := 32#32
  ![v445.toNat, 32]
def k0_off113 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v450 : Index := Scalar.indexCast arg22
  let c48 : Index := 48#32
  ![v450.toNat, 48]
def k0_off114 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v455 : Index := Scalar.indexCast arg22
  let c64 : Index := 64#32
  ![v455.toNat, 64]
def k0_off115 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v460 : Index := Scalar.indexCast arg22
  let c80 : Index := 80#32
  ![v460.toNat, 80]
def k0_off116 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v465 : Index := Scalar.indexCast arg22
  let c96 : Index := 96#32
  ![v465.toNat, 96]
def k0_off117 (k0_t15 : Fin k0_t15_loop.trips) : Fin 2 → Nat :=
  let c0_i32_493 : BitVec 32 := 0#32
  let c1_i32_495 : BitVec 32 := 1#32
  let arg22 : BitVec 32 := Scf.iv c0_i32_493 c1_i32_495 k0_t15
  let v470 : Index := Scalar.indexCast arg22
  let c112 : Index := 112#32
  ![v470.toNat, 112]
@[reducible] def k0_t16_loop : Scf.Loop 32 :=
  let c0_i32_529 : BitVec 32 := 0#32
  let c160_i32_530 : BitVec 32 := 160#32
  let v390 : BitVec 32 := Scalar.addi c0_i32_529 c160_i32_530
  let c1_i32_531 : BitVec 32 := 1#32
  ⟨c0_i32_529, v390, c1_i32_531⟩

def k0_chk15 (v433 : IVec S16 32) : Prop :=
  (∀ a x, ((![v433] : Fin 1 → IVec S16 32) a x).toNat < S2560.size a)
theorem k0_idx15_inb : ∀ (v433 : IVec S16 32) (k0_hw15 : k0_chk15 v433), ∀ a x, ((![v433] : Fin 1 → IVec S16 32) a x).toNat < S2560.size a := fun v433 k0_hw15 => k0_hw15
def k0_off118 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v435 : Index := Scalar.indexCast arg22
  let c0_595 : Index := 0#32
  ![v435.toNat, 0]
def k0_off119 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v440 : Index := Scalar.indexCast arg22
  let c16 : Index := 16#32
  ![v440.toNat, 16]
def k0_off120 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v445 : Index := Scalar.indexCast arg22
  let c32 : Index := 32#32
  ![v445.toNat, 32]
def k0_off121 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v450 : Index := Scalar.indexCast arg22
  let c48 : Index := 48#32
  ![v450.toNat, 48]
def k0_off122 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v455 : Index := Scalar.indexCast arg22
  let c64 : Index := 64#32
  ![v455.toNat, 64]
def k0_off123 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v460 : Index := Scalar.indexCast arg22
  let c80 : Index := 80#32
  ![v460.toNat, 80]
def k0_off124 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v465 : Index := Scalar.indexCast arg22
  let c96 : Index := 96#32
  ![v465.toNat, 96]
def k0_off125 (k0_t16 : Fin k0_t16_loop.trips) : Fin 2 → Nat :=
  let c0_i32_529 : BitVec 32 := 0#32
  let c1_i32_531 : BitVec 32 := 1#32
  let arg22 : BitVec 32 := Scf.iv c0_i32_529 c1_i32_531 k0_t16
  let v470 : Index := Scalar.indexCast arg22
  let c112 : Index := 112#32
  ![v470.toNat, 112]
@[reducible] def k0_t17_loop : Scf.Loop 32 :=
  let c0_i32_551 : BitVec 32 := 0#32
  let c160_i32_552 : BitVec 32 := 160#32
  let v404 : BitVec 32 := Scalar.addi c0_i32_551 c160_i32_552
  let c1_i32_553 : BitVec 32 := 1#32
  ⟨c0_i32_551, v404, c1_i32_553⟩

def k0_chk16 (v433 : IVec S16 32) : Prop :=
  (∀ a x, ((![v433] : Fin 1 → IVec S16 32) a x).toNat < S2560.size a)
theorem k0_idx16_inb : ∀ (v433 : IVec S16 32) (k0_hw16 : k0_chk16 v433), ∀ a x, ((![v433] : Fin 1 → IVec S16 32) a x).toNat < S2560.size a := fun v433 k0_hw16 => k0_hw16
def k0_off126 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v435 : Index := Scalar.indexCast arg22
  let c0_595 : Index := 0#32
  ![v435.toNat, 0]
def k0_off127 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v440 : Index := Scalar.indexCast arg22
  let c16 : Index := 16#32
  ![v440.toNat, 16]
def k0_off128 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v445 : Index := Scalar.indexCast arg22
  let c32 : Index := 32#32
  ![v445.toNat, 32]
def k0_off129 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v450 : Index := Scalar.indexCast arg22
  let c48 : Index := 48#32
  ![v450.toNat, 48]
def k0_off130 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v455 : Index := Scalar.indexCast arg22
  let c64 : Index := 64#32
  ![v455.toNat, 64]
def k0_off131 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v460 : Index := Scalar.indexCast arg22
  let c80 : Index := 80#32
  ![v460.toNat, 80]
def k0_off132 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v465 : Index := Scalar.indexCast arg22
  let c96 : Index := 96#32
  ![v465.toNat, 96]
def k0_off133 (k0_t17 : Fin k0_t17_loop.trips) : Fin 2 → Nat :=
  let c0_i32_551 : BitVec 32 := 0#32
  let c1_i32_553 : BitVec 32 := 1#32
  let arg22 : BitVec 32 := Scf.iv c0_i32_551 c1_i32_553 k0_t17
  let v470 : Index := Scalar.indexCast arg22
  let c112 : Index := 112#32
  ![v470.toNat, 112]
def k0_off134 (i : grid0.Coords) : Fin 2 → Nat :=
  let arg0 : BitVec 32 := BitVec.ofNat 32 (i 0).val
  let c10000_i32 : BitVec 32 := 10000#32
  let v9 : BitVec 32 := Scalar.muli arg0 c10000_i32
  let arg1 : BitVec 32 := BitVec.ofNat 32 (i 1).val
  let c624_i32_4 : BitVec 32 := 624#32
  let v10 : BitVec 32 := Scalar.muli arg1 c624_i32_4
  let v11 : BitVec 32 := Scalar.addi v9 v10
  let c0_i32_7_r2 : BitVec 32 := 0#32
  ![v11.toNat, 0]
def k0_cond2 (i : grid0.Coords) : BitVec 1 :=
  let arg1 : BitVec 32 := BitVec.ofNat 32 (i 1).val
  let c15_i32_5 : BitVec 32 := 15#32
  let v12 : BitVec 1 := Scalar.cmpi .eq arg1 c15_i32_5
  let v13 : BitVec 32 := Scalar.extui v12
  let c0_i32_6 : BitVec 32 := 0#32
  let v14 : BitVec 1 := Scalar.cmpi .ne v13 c0_i32_6
  v14

def k0_off135 (i : grid0.Coords) : Fin 2 → Nat :=
  let arg0 : BitVec 32 := BitVec.ofNat 32 (i 0).val
  let c10000_i32_7 : BitVec 32 := 10000#32
  let v15 : BitVec 32 := Scalar.muli arg0 c10000_i32_7
  let c9984_i32 : BitVec 32 := 9984#32
  let v16 : BitVec 32 := Scalar.addi v15 c9984_i32
  let c0_i32_8_r3 : BitVec 32 := 0#32
  ![v16.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== EdgeRefIdeal.lean ====
abbrev S80000x128 : Shape := ⟨2, ![80000, 128]⟩
abbrev S327680 : Shape := ⟨1, ![327680]⟩
abbrev S4096x80 : Shape := ⟨2, ![4096, 80]⟩
abbrev S10000x128 : Shape := ⟨2, ![10000, 128]⟩
abbrev S_ : Shape := ⟨0, ![]⟩
abbrev S327680x1 : Shape := ⟨2, ![327680, 1]⟩
abbrev S327680x128 : Shape := ⟨2, ![327680, 128]⟩
abbrev S20000x128 : Shape := ⟨2, ![20000, 128]⟩

abbrev nBuf : Space → Nat
  | .hbm => 18
  | .vmem => 0
  | .smem => 0
  | _ => 0

abbrev bufTy : (tb : Table) → Fin (tcTables nBuf tb) → BufTy
  | .hbm, ⟨0, _⟩ => ⟨S80000x128, .f32⟩
  | .hbm, ⟨1, _⟩ => ⟨S327680, .i32⟩
  | .hbm, ⟨2, _⟩ => ⟨S4096x80, .i32⟩
  | .hbm, ⟨3, _⟩ => ⟨S327680, .f32⟩
  | .hbm, ⟨4, _⟩ => ⟨S10000x128, .f32⟩
  | .hbm, ⟨5, _⟩ => ⟨S_, .i32⟩
  | .hbm, ⟨6, _⟩ => ⟨S327680, .i32⟩
  | .hbm, ⟨7, _⟩ => ⟨S327680, .i1⟩
  | .hbm, ⟨8, _⟩ => ⟨S_, .i32⟩
  | .hbm, ⟨9, _⟩ => ⟨S327680, .i32⟩
  | .hbm, ⟨10, _⟩ => ⟨S327680, .i32⟩
  | .hbm, ⟨11, _⟩ => ⟨S327680, .i32⟩
  | .hbm, ⟨12, _⟩ => ⟨S327680x1, .i32⟩
  | .hbm, ⟨13, _⟩ => ⟨S327680x128, .f32⟩
  | .hbm, ⟨14, _⟩ => ⟨S327680x1, .f32⟩
  | .hbm, ⟨15, _⟩ => ⟨S327680x128, .f32⟩
  | .hbm, ⟨16, _⟩ => ⟨S327680x128, .f32⟩
  | .hbm, ⟨17, _⟩ => ⟨S20000x128, .f32⟩
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Mm1.lean ====
abbrev S10000x128 : Shape := ⟨2, ![10000, 128]⟩
abbrev S8x128x128 : Shape := ⟨3, ![8, 128, 128]⟩
abbrev S128x128 : Shape := ⟨2, ![128, 128]⟩
abbrev S128 : Shape := ⟨1, ![128]⟩
abbrev S1x128x128 : Shape := ⟨3, ![1, 128, 128]⟩
abbrev S9x128x128 : Shape := ⟨3, ![9, 128, 128]⟩
abbrev S1x128 : Shape := ⟨2, ![1, 128]⟩
abbrev S8x10000x128 : Shape := ⟨3, ![8, 10000, 128]⟩
abbrev S1000x128 : Shape := ⟨2, ![1000, 128]⟩
abbrev S8x1000x128 : Shape := ⟨3, ![8, 1000, 128]⟩
abbrev S1x1000x128 : Shape := ⟨3, ![1, 1000, 128]⟩

abbrev nBuf : Space → Nat
  | .hbm => 9
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S8x128x128, .f32⟩
  | .hbm, ⟨2, _⟩ => ⟨S128x128, .f32⟩
  | .hbm, ⟨3, _⟩ => ⟨S128, .f32⟩
  | .hbm, ⟨4, _⟩ => ⟨S1x128x128, .f32⟩
  | .hbm, ⟨5, _⟩ => ⟨S9x128x128, .f32⟩
  | .hbm, ⟨6, _⟩ => ⟨S1x128, .f32⟩
  | .hbm, ⟨7, _⟩ => ⟨S8x10000x128, .f32⟩
  | .hbm, ⟨8, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S9x128x128, .f32⟩
  | .local _ .vmem, ⟨3, _⟩ => ⟨S1x128, .f32⟩
  | .local _ .vmem, ⟨4, _⟩ => ⟨S8x1000x128, .f32⟩
  | .local _ .vmem, ⟨5, _⟩ => ⟨S8x1000x128, .f32⟩
  | .local _ .vmem, ⟨6, _⟩ => ⟨S1000x128, .f32⟩
  | .local _ .vmem, ⟨7, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Mm1RefIdeal.lean ====
abbrev S10000x128 : Shape := ⟨2, ![10000, 128]⟩
abbrev S8x128x128 : Shape := ⟨3, ![8, 128, 128]⟩
abbrev S128x128 : Shape := ⟨2, ![128, 128]⟩
abbrev S128 : Shape := ⟨1, ![128]⟩
abbrev S8x128x10000 : Shape := ⟨3, ![8, 128, 10000]⟩
abbrev S8x10000x128 : Shape := ⟨3, ![8, 10000, 128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S8x128x128, .f32⟩
  | .hbm, ⟨2, _⟩ => ⟨S128x128, .f32⟩
  | .hbm, ⟨3, _⟩ => ⟨S128, .f32⟩
  | .hbm, ⟨4, _⟩ => ⟨S8x128x10000, .f32⟩
  | .hbm, ⟨5, _⟩ => ⟨S8x10000x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Mm2.lean ====
abbrev S20000x128 : Shape := ⟨2, ![20000, 128]⟩
abbrev S10000x128 : Shape := ⟨2, ![10000, 128]⟩
abbrev S8x128x128 : Shape := ⟨3, ![8, 128, 128]⟩
abbrev S128x128 : Shape := ⟨2, ![128, 128]⟩
abbrev S128 : Shape := ⟨1, ![128]⟩
abbrev S1x128x128 : Shape := ⟨3, ![1, 128, 128]⟩
abbrev S9x128x128 : Shape := ⟨3, ![9, 128, 128]⟩
abbrev S2x10000x128 : Shape := ⟨3, ![2, 10000, 128]⟩
abbrev S1x128 : Shape := ⟨2, ![1, 128]⟩
abbrev S8x10000x128 : Shape := ⟨3, ![8, 10000, 128]⟩
abbrev S2x1000x128 : Shape := ⟨3, ![2, 1000, 128]⟩
abbrev S1000x128 : Shape := ⟨2, ![1000, 128]⟩
abbrev S8x1000x128 : Shape := ⟨3, ![8, 1000, 128]⟩
abbrev S1x1000x128 : Shape := ⟨3, ![1, 1000, 128]⟩

abbrev nBuf : Space → Nat
  | .hbm => 11
  | .vmem => 10
  | .smem => 0
  | _ => 0

abbrev bufTy : (tb : Table) → Fin (tcTables nBuf tb) → BufTy
  | .hbm, ⟨0, _⟩ => ⟨S20000x128, .f32⟩
  | .hbm, ⟨1, _⟩ => ⟨S10000x128, .f32⟩
  | .hbm, ⟨2, _⟩ => ⟨S8x128x128, .f32⟩
  | .hbm, ⟨3, _⟩ => ⟨S128x128, .f32⟩
  | .hbm, ⟨4, _⟩ => ⟨S128, .f32⟩
  | .hbm, ⟨5, _⟩ => ⟨S1x128x128, .f32⟩
  | .hbm, ⟨6, _⟩ => ⟨S9x128x128, .f32⟩
  | .hbm, ⟨7, _⟩ => ⟨S2x10000x128, .f32⟩
  | .hbm, ⟨8, _⟩ => ⟨S1x128, .f32⟩
  | .hbm, ⟨9, _⟩ => ⟨S8x10000x128, .f32⟩
  | .hbm, ⟨10, _⟩ => ⟨S10000x128, .f32⟩
  | .local _ .vmem, ⟨0, _⟩ => ⟨S2x1000x128, .f32⟩
  | .local _ .vmem, ⟨1, _⟩ => ⟨S2x1000x128, .f32⟩
  | .local _ .vmem, ⟨2, _⟩ => ⟨S1000x128, .f32⟩
  | .local _ .vmem, ⟨3, _⟩ => ⟨S1000x128, .f32⟩
  | .local _ .vmem, ⟨4, _⟩ => ⟨S9x128x128, .f32⟩
  | .local _ .vmem, ⟨5, _⟩ => ⟨S1x128, .f32⟩
  | .local _ .vmem, ⟨6, _⟩ => ⟨S8x1000x128, .f32⟩
  | .local _ .vmem, ⟨7, _⟩ => ⟨S8x1000x128, .f32⟩
  | .local _ .vmem, ⟨8, _⟩ => ⟨S1000x128, .f32⟩
  | .local _ .vmem, ⟨9, _⟩ => ⟨S1000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Mm2RefIdeal.lean ====
abbrev S20000x128 : Shape := ⟨2, ![20000, 128]⟩
abbrev S10000x128 : Shape := ⟨2, ![10000, 128]⟩
abbrev S8x128x128 : Shape := ⟨3, ![8, 128, 128]⟩
abbrev S128x128 : Shape := ⟨2, ![128, 128]⟩
abbrev S128 : Shape := ⟨1, ![128]⟩
abbrev S_ : Shape := ⟨0, ![]⟩
abbrev S8x128x10000 : Shape := ⟨3, ![8, 128, 10000]⟩
abbrev S8x10000x128 : Shape := ⟨3, ![8, 10000, 128]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S10000x128, .f32⟩
  | .hbm, ⟨2, _⟩ => ⟨S8x128x128, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S8x128x10000, .f32⟩
  | .hbm, ⟨13, _⟩ => ⟨S8x10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Final.lean ====
abbrev S20000x128 : Shape := ⟨2, ![20000, 128]⟩
abbrev S10000x128 : Shape := ⟨2, ![10000, 128]⟩
abbrev S2x10000x128 : Shape := ⟨3, ![2, 10000, 128]⟩
abbrev S2x1000x128 : Shape := ⟨3, ![2, 1000, 128]⟩
abbrev S1000x128 : Shape := ⟨2, ![1000, 128]⟩
abbrev S1x1000x128 : Shape := ⟨3, ![1, 1000, 128]⟩

abbrev nBuf : Space → Nat
  | .hbm => 4
  | .vmem => 6
  | .smem => 0
  | _ => 0

abbrev bufTy : (tb : Table) → Fin (tcTables nBuf tb) → BufTy
  | .hbm, ⟨0, _⟩ => ⟨S20000x128, .f32⟩
  | .hbm, ⟨1, _⟩ => ⟨S10000x128, .f32⟩
  | .hbm, ⟨2, _⟩ => ⟨S2x10000x128, .f32⟩
  | .hbm, ⟨3, _⟩ => ⟨S10000x128, .f32⟩
  | .local _ .vmem, ⟨0, _⟩ => ⟨S2x1000x128, .f32⟩
  | .local _ .vmem, ⟨1, _⟩ => ⟨S2x1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S20000x128 : Shape := ⟨2, ![20000, 128]⟩
abbrev S10000x128 : Shape := ⟨2, ![10000, 128]⟩

abbrev nBuf : Space → Nat
  | .hbm => 6
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S10000x128, .f32⟩
  | .hbm, ⟨2, _⟩ => ⟨S10000x128, .f32⟩
  | .hbm, ⟨3, _⟩ => ⟨S10000x128, .f32⟩
  | .hbm, ⟨4, _⟩ => ⟨S10000x128, .f32⟩
  | .hbm, ⟨5, _⟩ => ⟨S10000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Slab.lean ====
/- One relation's product, read at an index: the rows of a block against one slab of the stacked weights. -/
module

public import Idealize.ShloMosaic.Lib.MatmulPlain
public import Idealize.ShloMosaic.Lib.Pipeline.ValueKit

@[expose] public section

noncomputable section

open Idealize.ShloMosaic

namespace Slab

/-- The product of a block of rows with one slab (a `[1, K, N]` block seen as `[K, N]`), started from zero, is the
    sum over the contracted coordinate. -/
theorem mul_apply {M K N : ℕ} {φ₁ φ₂ : FTy} (x : FVec Ideal ⟨2, ![M, K]⟩ φ₁) (w : FVec Ideal ⟨3, ![1, K, N]⟩ φ₂)
    (h : (⟨3, ![1, K, N]⟩ : Shape).ShapeCasts ⟨2, ![K, N]⟩) (r : Fin M) (c : Fin N) :
    FloatOps.matmul (DotDims.plain M K N) none x (shapeCast ⟨2, ![K, N]⟩ w h) (constant ⟨2, ![M, N]⟩ .f32 0x00000000#32) (ix2 r c)
      = ∑ k : Fin K, x (ix2 r k) * w (ix3 0 k c) := by
  refine (Ideal.matmul_plain_apply none x _ _ r c).trans ?_
  have h0 : (constant (F := Ideal) ⟨2, ![M, N]⟩ .f32 0x00000000#32) (ix2 r c) = (0 : EReal) := by
    simp [constant, Ideal.ofBits, Ideal.ieee]
  refine (congrArg (· + _) h0).trans ((zero_add _).trans ?_)
  refine Finset.sum_congr rfl fun k _ => congrArg (x (ix2 r k) * ·) ?_
  refine (shapeCast_dropUnit_apply ![K, N] w h (ix2 k c)).trans (congrArg w (funext fun a => ?_))
  match a with
  | ⟨0, _⟩ => rfl
  | ⟨1, _⟩ => rfl
  | ⟨2, _⟩ => rfl

end Slab

end
-- ==== Proof.Mm1Alg.lean ====
/- `mm1`: the first layer's TensorCore call, one product for each relation and the root product with its bias, against
   the same products on the host. -/
module

public import proofs.«01_k».proof.Defs
public import proofs.«01_k».proof.Proof.Slab
public import proofs.«01_k».proof.Proof.Gen.Mm1Ideal.Value
public import proofs.«01_k».proof.Proof.Gen.Mm1RefIdeal.Read
public import proofs.«01_k».proof.Proof.Gen.Mm1RefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Mm1Alg

open Cert.Mm1Ideal Cert.Mm1Ideal.Gen
open Cert.Mm1RefIdeal.Read (val_main_v1 val_main_v1_apply val_main_v0_apply val_main_v5 val_main_v5_apply val_main_v2_apply
  val_main_v3_apply val_main_v4_apply)

theorem idx : ∀ t : Fin cfg0.N, win0_0.index t = ![t.val, 0] ∧ win0_1.index t = ![0, 0, 0] ∧ win0_2.index t = ![0, 0]
      ∧ win0_3.index t = ![0, t.val, 0] ∧ win0_4.index t = ![t.val, 0] :=
  (by decide +kernel : ∀ t : Fin grid0.N, win0_0.index t = ![t.val, 0] ∧ win0_1.index t = ![0, 0, 0] ∧ win0_2.index t = ![0, 0]
      ∧ win0_3.index t = ![0, t.val, 0] ∧ win0_4.index t = ![t.val, 0])

/-- What one relation's store holds, at an index: the rows against that relation's slab. -/
theorem pay_apply (x : Vec Ideal S1000x128 .f32) (w : Vec Ideal S1x128x128 .f32) (y : S1x1000x128.Idx) :
    k0_pay2 (F := Ideal) x w y = ∑ k : Fin 128, x (ix2 (y 1) k) * w (ix3 0 k (y 2)) := by
  unfold k0_pay2
  refine (shapeCast_addUnit_apply ![1000, 128] _ shapeCasts_S1000x128_S1x1000x128 y).trans ?_
  refine Eq.trans (congrArg _ (funext fun a => ?_)) (Slab.mul_apply x w shapeCasts_S1x128x128_S128x128 (y 1) (y 2))
  match a with
  | ⟨0, _⟩ => rfl
  | ⟨1, _⟩ => rfl

/-- What the root store holds, at an index: the rows against the root slab, and the bias. -/
theorem pay_root_apply (x : Vec Ideal S1000x128 .f32) (w : Vec Ideal S1x128x128 .f32) (b : Vec Ideal S1x128 .f32) (y : S1000x128.Idx) :
    k0_pay1 (F := Ideal) x w b y = FloatOps.addf (∑ k : Fin 128, x (ix2 (y 0) k) * w (ix3 0 k (y 1))) (b (ix2 0 (y 1))) := by
  have hy : ix2 (y 0) (y 1) = y := by
    funext a
    match a with
    | ⟨0, _⟩ => rfl
    | ⟨1, _⟩ => rfl
  unfold k0_pay1
  refine congrArg₂ FloatOps.addf ?_ ?_
  · exact (congrArg _ hy.symm).trans (Slab.mul_apply x w shapeCasts_S1x128x128_S128x128 (y 0) (y 1))
  · pointwise

/-- A slab below 8 of the stacked weights is that relation's weights. -/
theorem w_rel (m : (ℓ : Loc nD τ sig) → Buf (Elt Ideal) ℓ) (c : Dev nD) (t : Fin cfg0.N) (y : S9x128x128.Idx) (z : S8x128x128.Idx)
    (h0 : (y 0).val = (z 0).val) (h1 : (y 1).val = (z 1).val) (h2 : (y 2).val = (z 2).val) :
    iblk m c 1 t y = m ((c.tc : Thread nD τ).loc main_arg1) z := by
  have hz : (z 0).val < 8 := (z 0).isLt
  blk_simp [iblk, idx t]
  entry_read
  pointwise
  have e : ((((View.whole main_v1).slice (win0_1.rect t)).emb y) 0).val = (y 0).val := by blk_simp [idx t]
  rw [dif_pos (by omega)]
  blk_ext [idx t]

/-- Slab 8 of the stacked weights is the root weights. -/
theorem w_root (m : (ℓ : Loc nD τ sig) → Buf (Elt Ideal) ℓ) (c : Dev nD) (t : Fin cfg0.N) (y : S9x128x128.Idx) (z : S128x128.Idx)
    (h0 : (y 0).val = 8) (h1 : (y 1).val = (z 0).val) (h2 : (y 2).val = (z 1).val) :
    iblk m c 1 t y = m ((c.tc : Thread nD τ).loc main_arg2) z := by
  blk_simp [iblk, idx t]
  entry_read
  pointwise
  have e : ((((View.whole main_v1).slice (win0_1.rect t)).emb y) 0).val = (y 0).val := by blk_simp [idx t]
  rw [dif_neg (by omega)]
  blk_ext [idx t]

/-- The products after the run. -/
theorem final3 (m : (ℓ : Loc nD τ sig) → Buf (Elt Ideal) ℓ) (c : Dev nD) :
    (dats m 0 c).arrAt 3 cfg0.N
      = val_main_v1 (F := Ideal) (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  rw [val_main_v1_apply, val_main_v0_apply]
  canon_tiles x h
  all_goals
    refine (pay_apply _ _ x).trans (Finset.sum_congr rfl fun k _ => (mul_comm _ _).trans (congrArg₂ (· * ·) ?_ ?_))
    · refine w_rel m c t _ _ ?_ ?_ ?_
      · show _ = (((win0_3.blk t).view.emb y) 0).val
        blk_simp [idx t, Rect.idx_unit_val]
        show _ + 0 = _
        omega
      · show 0 + 1 * k.val = k.val
        omega
      · show _ = (((win0_3.blk t).view.emb y) 2).val
        blk_simp [idx t, Rect.idx_unit_val]
        exact h2.symm
    · blk_ext [iblk, V, idx t]

/-- The root product with its bias after the run. -/
theorem final4 (m : (ℓ : Loc nD τ sig) → Buf (Elt Ideal) ℓ) (c : Dev nD) :
    (dats m 0 c).arrAt 4 cfg0.N
      = val_main_v5 (F := Ideal) (m ((c.tc : Thread nD τ).loc main_arg0)) (m ((c.tc : Thread nD τ).loc main_arg2))
          (m ((c.tc : Thread nD τ).loc main_arg3)) := by
  refine (dats m 0 c).arrAt_eq_of_covers 4 _ (by decide +kernel) fun t hf y => ?_
  blk_simp
  rw [after0_4]
  frame_out
  rw [val_main_v5_apply, val_main_v2_apply, val_main_v4_apply, val_main_v3_apply]
  refine (pay_root_apply _ _ _ y).trans (congrArg₂ FloatOps.addf (Finset.sum_congr rfl fun k _ => congrArg₂ (· * ·) ?_ ?_) ?_)
  · blk_ext [iblk, V, idx t]
  · refine w_root m c t _ _ rfl ?_ ?_
    · show 0 + 1 * k.val = k.val
      omega
    · show 0 + 1 * (y 1).val = (((win0_4.blk t).view.emb y) 1).val
      blk_simp [idx t]
  · blk_simp [iblk, idx t]
    entry_read
    pointwise
    blk_ext [idx t]

/-- The host's form runs, its arguments unchanged; it has no semaphore. -/
theorem frame_ref : Cert.quiescent_Mm1RefIdeal := fun m ρ _ =>
  (θ_run Cert.Mm1RefIdeal.defs _ _).mono (fun r h => ⟨fun c => (h c).2.2, Idealize.ShloMosaic.sem_eq_zero_of_no_sems (by decide) r.2⟩)
    (Cert.Mm1RefIdeal.Value.run (F := Ideal) m ρ)

/-- The call and the host's plain form end with equal results. -/
theorem alg : Cert.algebraic_Mm1Ideal_Mm1RefIdeal := by
  pair_intro
  · run_from Cert.Mm1Ideal.Value.run_blocks m g
  · run_from Cert.Mm1RefIdeal.Value.run m' g'
    all_goals first | exact (final3 m c).symm | exact (final4 m c).symm

end Cert.Mm1Alg

end
-- ==== Proof.Mm2Alg.lean ====
/- `mm2`: the second layer's TensorCore call: the hidden rows, the positive part of the two cores' sums and the root
   term, then one product for each relation and the root product with its bias, against the same on the host. -/
module

public import proofs.«01_k».proof.Defs
public import proofs.«01_k».proof.Proof.Slab
public import proofs.«01_k».proof.Proof.Gen.Mm2Ideal.Value
public import proofs.«01_k».proof.Proof.Gen.Mm2RefIdeal.Read
public import proofs.«01_k».proof.Proof.Gen.Mm2RefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Mm2Alg

open Cert.Mm2Ideal Cert.Mm2Ideal.Gen
open Cert.Mm2RefIdeal.Read (val_main_v6 val_main_v6_apply val_main_v5_apply val_main_v10 val_main_v10_apply val_main_v7_apply
  val_main_v8_apply val_main_v9_apply val_main_v4 val_main_v4_apply val_main_v3_apply val_main_v2_apply val_main_v1_apply
  val_main_v0_apply val_main_call0_v0_apply val_main_call0_cst_apply)

theorem idx : ∀ t : Fin cfg0.N, win0_0.index t = ![0, t.val, 0] ∧ win0_1.index t = ![t.val, 0] ∧ win0_2.index t = ![0, 0, 0]
      ∧ win0_3.index t = ![0, 0] ∧ win0_4.index t = ![0, t.val, 0] ∧ win0_5.index t = ![t.val, 0] :=
  (by decide +kernel : ∀ t : Fin grid0.N, win0_0.index t = ![0, t.val, 0] ∧ win0_1.index t = ![t.val, 0] ∧ win0_2.index t = ![0, 0, 0]
      ∧ win0_3.index t = ![0, 0] ∧ win0_4.index t = ![0, t.val, 0] ∧ win0_5.index t = ![t.val, 0])

/-- A block of hidden rows, at an index, is the reference's hidden row. -/
theorem hid (m : (ℓ : Loc nD τ sig) → Buf (Elt Ideal) ℓ) (c : Dev nD) (t : Fin cfg0.N) (y : S1000x128.Idx) (z : S10000x128.Idx)
    (h0 : (z 0).val = t.val * 1000 + (y 0).val) (h1 : (z 1).val = (y 1).val) :
    k0_pay3 (View.ld (iblk m c 0 t) r0_0) (View.ld (iblk m c 0 t) r0_1) (iblk m c 1 t) y
      = val_main_v4 (F := Ideal) (m ((c.tc : Thread nD τ).loc main_arg0)) (m ((c.tc : Thread nD τ).loc main_arg1)) z := by
  simp only [val_main_v4_apply, val_main_v3_apply, val_main_v2_apply, val_main_v1_apply, val_main_v0_apply,
    val_main_call0_v0_apply, val_main_call0_cst_apply]
  unfold k0_pay3
  pointwise
  blk_point [iblk, V, idx t]

/-- What one relation's store holds, at an index: the rows against that relation's slab. -/
theorem pay_apply (x : Vec Ideal S1000x128 .f32) (w : Vec Ideal S1x128x128 .f32) (y : S1x1000x128.Idx) :
    k0_pay1 (F := Ideal) x w y = ∑ k : Fin 128, x (ix2 (y 1) k) * w (ix3 0 k (y 2)) := by
  unfold k0_pay1
  refine (shapeCast_addUnit_apply ![1000, 128] _ shapeCasts_S1000x128_S1x1000x128 y).trans ?_
  refine Eq.trans (congrArg _ (funext fun a => ?_)) (Slab.mul_apply x w shapeCasts_S1x128x128_S128x128 (y 1) (y 2))
  match a with
  | ⟨0, _⟩ => rfl
  | ⟨1, _⟩ => rfl

/-- What the root store holds, at an index: the rows against the root slab, and the bias. -/
theorem pay_root_apply (x : Vec Ideal S1000x128 .f32) (w : Vec Ideal S1x128x128 .f32) (b : Vec Ideal S1x128 .f32) (y : S1000x128.Idx) :
    k0_pay2 (F := Ideal) x w b y = FloatOps.addf (∑ k : Fin 128, x (ix2 (y 0) k) * w (ix3 0 k (y 1))) (b (ix2 0 (y 1))) := by
  have hy : ix2 (y 0) (y 1) = y := by
    funext a
    match a with
    | ⟨0, _⟩ => rfl
    | ⟨1, _⟩ => rfl
  unfold k0_pay2
  refine congrArg₂ FloatOps.addf ?_ ?_
  · exact (congrArg _ hy.symm).trans (Slab.mul_apply x w shapeCasts_S1x128x128_S128x128 (y 0) (y 1))
  · pointwise

/-- A slab below 8 of the stacked weights is that relation's weights. -/
theorem w_rel (m : (ℓ : Loc nD τ sig) → Buf (Elt Ideal) ℓ) (c : Dev nD) (t : Fin cfg0.N) (y : S9x128x128.Idx) (z : S8x128x128.Idx)
    (h0 : (y 0).val = (z 0).val) (h1 : (y 1).val = (z 1).val) (h2 : (y 2).val = (z 2).val) :
    iblk m c 2 t y = m ((c.tc : Thread nD τ).loc main_arg2) z := by
  have hz : (z 0).val < 8 := (z 0).isLt
  blk_simp [iblk, idx t]
  entry_read
  pointwise
  have e : ((((View.whole main_v1).slice (win0_2.rect t)).emb y) 0).val = (y 0).val := by blk_simp [idx t]
  rw [dif_pos (by omega)]
  blk_ext [idx t]

/-- Slab 8 of the stacked weights is the root weights. -/
theorem w_root (m : (ℓ : Loc nD τ sig) → Buf (Elt Ideal) ℓ) (c : Dev nD) (t : Fin cfg0.N) (y : S9x128x128.Idx) (z : S128x128.Idx)
    (h0 : (y 0).val = 8) (h1 : (y 1).val = (z 0).val) (h2 : (y 2).val = (z 1).val) :
    iblk m c 2 t y = m ((c.tc : Thread nD τ).loc main_arg3) z := by
  blk_simp [iblk, idx t]
  entry_read
  pointwise
  have e : ((((View.whole main_v1).slice (win0_2.rect t)).emb y) 0).val = (y 0).val := by blk_simp [idx t]
  rw [dif_neg (by omega)]
  blk_ext [idx t]

/-- The hidden rows' block, its whole load of the root term read as the block itself. -/
theorem pay11_eq (x0 : Vec Ideal S2x1000x128 .f32) (x1 : Vec Ideal S1000x128 .f32) (x2 : Vec Ideal S9x128x128 .f32) (x3 : Vec Ideal S1x128 .f32) :
    k0_pay11 (F := Ideal) x0 x1 x2 x3 = k0_pay3 (View.ld x0 r0_0) (View.ld x0 r0_1) x1 := by
  unfold k0_pay11
  rw [View.ld_unit_zero (by funext a; match a with | ⟨0, _⟩ => rfl | ⟨1, _⟩ => rfl)]

/-- One relation's store, at an index, is the reference's product there. -/
theorem rel (m : (ℓ : Loc nD τ sig) → Buf (Elt Ideal) ℓ) (c : Dev nD) (t : Fin cfg0.N) (w : Vec Ideal S1x128x128 .f32)
    (x : S1x1000x128.Idx) (z : S8x10000x128.Idx) (h1 : (z 1).val = t.val * 1000 + (x 1).val) (h2 : (z 2).val = (x 2).val)
    (hw : ∀ k : Fin 128, w (ix3 0 k (x 2)) = m ((c.tc : Thread nD τ).loc main_arg2) (ix3 (z 0) k (z 2))) :
    k0_pay1 (F := Ideal) (k0_pay3 (View.ld (iblk m c 0 t) r0_0) (View.ld (iblk m c 0 t) r0_1) (iblk m c 1 t)) w x
      = val_main_v6 (F := Ideal) (m ((c.tc : Thread nD τ).loc main_arg0)) (m ((c.tc : Thread nD τ).loc main_arg1))
          (m ((c.tc : Thread nD τ).loc main_arg2)) z := by
  rw [val_main_v6_apply, val_main_v5_apply, pay_apply]
  refine Finset.sum_congr rfl fun k _ => (mul_comm _ _).trans (congrArg₂ (· * ·) ((hw k).trans (congrArg _ (funext fun a => ?_))) ?_)
  · match a with
    | ⟨0, _⟩ => rfl
    | ⟨1, _⟩ => rfl
    | ⟨2, _⟩ => rfl
  · exact hid m c t _ _ h1 rfl

set_option maxHeartbeats 400000 in
/-- The products after the run. -/
theorem final4 (m : (ℓ : Loc nD τ sig) → Buf (Elt Ideal) ℓ) (c : Dev nD) :
    (dats m 0 c).arrAt 4 cfg0.N
      = val_main_v6 (F := Ideal) (m ((c.tc : Thread nD τ).loc main_arg0)) (m ((c.tc : Thread nD τ).loc main_arg1))
          (m ((c.tc : Thread nD τ).loc main_arg2)) := by
  refine (dats m 0 c).arrAt_eq_of_covers 4 _ (by decide +kernel) fun t hf y => ?_
  blk_simp
  rw [after0_4]
  frame_out
  simp only [pay11_eq]
  generalize hz : ((View.whole main_v4_0).slice (win0_4.rect t)).emb y = z
  have e0 : (z 0).val = (y 0).val := by rw [← hz]; blk_simp [idx t]
  have e1 : (z 1).val = t.val * 1000 + (y 1).val := by rw [← hz]; blk_simp [idx t]
  have e2 : (z 2).val = (y 2).val := by rw [← hz]; blk_simp [idx t]
  canon_tiles x h
  all_goals
    refine rel m c t _ x z (by omega) (by omega) fun k => w_rel m c t _ _ ?_ ?_ ?_
    · blk_simp [Rect.idx_unit_val]
      show _ + 0 = (z 0).val
      omega
    · show 0 + 1 * k.val = k.val
      omega
    · show 0 + 1 * (x 2).val = (z 2).val
      omega

set_option maxHeartbeats 400000 in
/-- The root product with its bias after the run. -/
theorem final5 (m : (ℓ : Loc nD τ sig) → Buf (Elt Ideal) ℓ) (c : Dev nD) :
    (dats m 0 c).arrAt 5 cfg0.N
      = val_main_v10 (F := Ideal) (m ((c.tc : Thread nD τ).loc main_arg0)) (m ((c.tc : Thread nD τ).loc main_arg1))
          (m ((c.tc : Thread nD τ).loc main_arg3)) (m ((c.tc : Thread nD τ).loc main_arg4)) := by
  refine (dats m 0 c).arrAt_eq_of_covers 5 _ (by decide +kernel) fun t hf y => ?_
  blk_simp
  rw [after0_5]
  frame_out
  simp only [pay11_eq]
  generalize hz : ((View.whole main_v4_1).slice (win0_5.rect t)).emb y = z
  have e0 : (z 0).val = t.val * 1000 + (y 0).val := by rw [← hz]; blk_simp [idx t]
  have e1 : (z 1).val = (y 1).val := by rw [← hz]; blk_simp [idx t]
  rw [val_main_v10_apply, val_main_v7_apply, val_main_v9_apply, val_main_v8_apply]
  refine (pay_root_apply (k0_pay3 (View.ld (iblk m c 0 t) r0_0) (View.ld (iblk m c 0 t) r0_1) (iblk m c 1 t)) _ _ y).trans
    (congrArg₂ FloatOps.addf (Finset.sum_congr rfl fun k _ => congrArg₂ (· * ·) ?_ ?_) ?_)
  · exact hid m c t _ _ e0 rfl
  · refine w_root m c t _ _ rfl ?_ ?_
    · show 0 + 1 * k.val = k.val
      omega
    · show 0 + 1 * (y 1).val = (z 1).val
      omega
  · blk_simp [iblk, idx t]
    entry_read
    pointwise
    blk_ext [idx t]

/-- The host's form runs, its arguments unchanged; it has no semaphore. -/
theorem frame_ref : Cert.quiescent_Mm2RefIdeal := fun m ρ _ =>
  (θ_run Cert.Mm2RefIdeal.defs _ _).mono (fun r h => ⟨fun c => (h c).2.2, Idealize.ShloMosaic.sem_eq_zero_of_no_sems (by decide) r.2⟩)
    (Cert.Mm2RefIdeal.Value.run (F := Ideal) m ρ)

/-- The call and the host's plain form end with equal results. -/
theorem alg : Cert.algebraic_Mm2Ideal_Mm2RefIdeal := by
  pair_intro
  · run_from Cert.Mm2Ideal.Value.run_blocks m g
  · run_from Cert.Mm2RefIdeal.Value.run m' g'
    all_goals first | exact (final4 m c).symm | exact (final5 m c).symm

end Cert.Mm2Alg

end
-- ==== Proof.FinalAlg.lean ====
/- `final`: the TensorCore call that adds the two cores' sums and the root term, against the same sum on the host. -/
module

public import proofs.«01_k».proof.Defs
public import proofs.«01_k».proof.Proof.Gen.FinalIdeal.Value
public import proofs.«01_k».proof.Proof.Gen.FinalRefIdeal.Read
public import proofs.«01_k».proof.Proof.Gen.FinalRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.FinalAlg

open Cert.FinalIdeal Cert.FinalIdeal.Gen

theorem idx : ∀ t : Fin cfg0.N, win0_0.index t = ![0, t.val, 0] ∧ win0_1.index t = ![t.val, 0] ∧ win0_2.index t = ![t.val, 0] :=
  (by decide +kernel : ∀ t : Fin grid0.N, win0_0.index t = ![0, t.val, 0] ∧ win0_1.index t = ![t.val, 0] ∧ win0_2.index t = ![t.val, 0])

/-- The result array after the run is the reference's sum of the arguments. -/
theorem final2 (m : (ℓ : Loc nD τ sig) → Buf (Elt Ideal) ℓ) (c : Dev nD) :
    (dats m 0 c).arrAt 2 cfg0.N
      = Cert.FinalRefIdeal.Read.val_main_v3 (F := Ideal) (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  simp only [Cert.FinalRefIdeal.Read.val_main_v3_apply, Cert.FinalRefIdeal.Read.val_main_v2_apply, Cert.FinalRefIdeal.Read.val_main_v0_apply, Cert.FinalRefIdeal.Read.val_main_v1_apply]
  unfold k0_pay1
  pointwise
  blk_point [iblk, V, idx t]

/-- The host's form runs, its arguments unchanged; it has no semaphore. -/
theorem frame_ref : Cert.quiescent_FinalRefIdeal := fun m ρ _ =>
  (θ_run Cert.FinalRefIdeal.defs _ _).mono (fun r h => ⟨fun c => (h c).2, Idealize.ShloMosaic.sem_eq_zero_of_no_sems (by decide) r.2⟩)
    (Cert.FinalRefIdeal.Value.run (F := Ideal) m ρ)

/-- The call and the host's plain form end with equal results. -/
theorem alg : Cert.algebraic_FinalIdeal_FinalRefIdeal := by
  pair_intro
  · run_from Cert.FinalIdeal.Value.run_blocks m g
  · run_from Cert.FinalRefIdeal.Value.run m' g'
    exact (final2 m c).symm

end Cert.FinalAlg

end
-- ==== Proof.EdgeBase.lean ====
/-
  The SparseCore call `Edge`: what its proof speaks of. The call's buffers as a vector subcore addresses them, the rows
  a tile's chunk names, and what each buffer holds: the list of row numbers, the list of factors, a row buffer at any
  stage of its scaling (`part`), and the results (`msg`: row `r` is row `flat[r]` of the table times `inv[r]`; `agg`: the
  rows of zeros, twice).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import Idealize.ShloMosaic.Lib.Claim
public import Idealize.ShloMosaic.Lib.Pipeline.ValueKit
public import proofs.«01_k».proof.Proof.Gen.Edge
public import proofs.«01_k».proof.Proof.Gen.EdgeIdeal
public import proofs.«01_k».proof.Proof.Gen.EdgeIdeal.Skeleton
public import proofs.«01_k».proof.Proof.Gen.EdgeRefIdeal
public import proofs.«01_k».proof.Proof.Gen.EdgeRefIdeal.Run
public import proofs.«01_k».proof.Proof.Gen.Pre_edge_rows

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UB : Type := URounds (GSem nD τ sig) ℕ
abbrev UU : Type := UH × (UB × Counters)

local notation "𝕄" => MT nD τ sig (HIx 1) (Elt F) ℕ UU ℕ

/-! ## The buffers -/

variable (m : (ℓ : Loc nD τ sig) → Buf (Elt F) ℓ)

/-- The table, the row numbers, the destination rows, the factors, the zeros and the two results, in the chip's memory. -/
abbrev tLoc (d : Dev nD) : Loc nD τ sig := (SparseCore.T d).loc main_arg0
abbrev fLoc (d : Dev nD) : Loc nD τ sig := (SparseCore.T d).loc main_arg1
abbrev dLoc (d : Dev nD) : Loc nD τ sig := (SparseCore.T d).loc main_arg2
abbrev nLoc (d : Dev nD) : Loc nD τ sig := (SparseCore.T d).loc main_arg3
abbrev zLoc (d : Dev nD) : Loc nD τ sig := (SparseCore.T d).loc main_arg4
abbrev oLoc (d : Dev nD) : Loc nD τ sig := (SparseCore.T d).loc main_v0_0
abbrev aLoc (d : Dev nD) : Loc nD τ sig := (SparseCore.T d).loc main_v0_1

abbrev tV : Memref sig .scVector .hbm S80000x128 .f32 := Memref.whole main_arg0_scv
abbrev fV : Memref sig .scVector .hbm S327680 .i32 := Memref.whole main_arg1_scv
abbrev dV : Memref sig .scVector .hbm S4096x80 .i32 := Memref.whole main_arg2_scv
abbrev nV : Memref sig .scVector .hbm S327680 .f32 := Memref.whole main_arg3_scv
abbrev zV : Memref sig .scVector .hbm S10000x128 .f32 := Memref.whole main_arg4_scv
abbrev oV : Memref sig .scVector .hbm S327680x128 .f32 := Memref.whole main_v0_0_scv
abbrev aV : Memref sig .scVector .hbm S20000x128 .f32 := Memref.whole main_v0_1_scv
/-- The SparseCore's own rows, in its shared memory. -/
abbrev hV : Memref sig .scVector .shared S10000x128 .f32 := Memref.whole cc0_scratch0
/-- The tile's list of row numbers, its destination rows, its list of factors, and its two row buffers. -/
abbrev dB : Memref sig .scVector .vmem S32x80 .i32 := Memref.whole cc0_scratch2
abbrev iB : Memref sig .scVector .vmem S2560 .i32 := Memref.whole cc0_scratch1
abbrev vB : Memref sig .scVector .vmem S2560 .f32 := Memref.whole cc0_scratch3
abbrev r0 : Memref sig .scVector .vmem S160x128 .f32 := Memref.whole cc0_scratch4
abbrev r1 : Memref sig .scVector .vmem S160x128 .f32 := Memref.whole cc0_scratch5

abbrev cV (L : grid0.Coords) : Fin τ.nSC := (L 0).castLE hcore0
abbrev jV (L : grid0.Coords) : Fin τ.nSub := (L 1).castLE hsub0

/-- The vector subcore at coordinates `L` of device `d`. -/
abbrev tile (d : Dev nD) (L : grid0.Coords) : Thread nD τ := V d (cV L) (jV L)

/-! ## What the buffers hold -/

section Values

variable (d : Dev nD)

/-- The row number of edge `n`, and its factor. -/
def flAt (n : ℕ) : BitVec 32 := m (fLoc d) (ValueIdx.ix1 (n := 327680) ⟨n % 327680, Nat.mod_lt _ (by decide)⟩)
def nvAt (n : ℕ) : Elt F .f32 := m (nLoc d) (ValueIdx.ix1 (n := 327680) ⟨n % 327680, Nat.mod_lt _ (by decide)⟩)

/-- Element `(v, c)` of the table. -/
def tabAt (v c : ℕ) : Elt F .f32 :=
  m (tLoc d) (ValueIdx.ix2 (n0 := 80000) (n1 := 128) ⟨v % 80000, Nat.mod_lt _ (by decide)⟩ ⟨c % 128, Nat.mod_lt _ (by decide)⟩)

/-- Element `c` of the row gathered for edge `n`, and of the scaled one. -/
def gv (n c : ℕ) : Elt F .f32 := tabAt m d (flAt m d n).toNat c
def mv [FloatOps F] (n c : ℕ) : Elt F .f32 := FloatOps.mulf (gv m d n c) (nvAt m d n)

/-- The rows of zeros, and the second result: they are written once for each SparseCore. -/
def zer : S10000x128.Idx → Elt F .f32 := m (zLoc d)
def agg : S20000x128.Idx → Elt F .f32 := fun x =>
  m (zLoc d) (ValueIdx.ix2 (n0 := 10000) (n1 := 128) ⟨(x 0).val % 10000, Nat.mod_lt _ (by decide)⟩ ⟨(x 1).val % 128, Nat.mod_lt _ (by decide)⟩)

/-- The first result. -/
def msg [FloatOps F] : S327680x128.Idx → Elt F .f32 := fun x => mv m d (x 0).val (x 1).val

/-- The two lists of the chunk that starts at edge `b`. -/
def idxC (b : ℕ) : S2560.Idx → Elt F .i32 := fun x => flAt m d (b + (x 0).val)
def invC (b : ℕ) : S2560.Idx → Elt F .f32 := fun x => nvAt m d (b + (x 0).val)

/-- A row buffer holding the rows of the edges from `b` on, scaled up to row `e` and, of row `e`, up to lane `l`. -/
def part [FloatOps F] (b e l : ℕ) : S160x128.Idx → Elt F .f32 := fun x =>
  if (x 0).val < e ∨ ((x 0).val = e ∧ (x 1).val < l) then mv m d (b + (x 0).val) (x 1).val else gv m d (b + (x 0).val) (x 1).val

variable [FloatOps F]

theorem part_zero (b : ℕ) : part m d b 0 0 = fun x => gv m d (b + (x 0).val) (x 1).val := by
  funext x; unfold part; rw [if_neg (by omega)]

theorem part_all (b : ℕ) : part m d b 160 0 = fun x => mv m d (b + (x 0).val) (x 1).val := by
  funext x; unfold part
  have h : (x 0).val < 160 := (x 0).isLt
  rw [if_pos (Or.inl h)]

theorem part_row (b e : ℕ) : part m d b e 128 = part m d b (e + 1) 0 := by
  funext x
  have h : (x 1).val < 128 := (x 1).isLt
  unfold part
  exact if_congr (by omega) rfl rfl

end Values

/-! ## What a tile holds -/

section Held

variable (d : Dev nD) (L : grid0.Coords) [FloatOps F]

/-- A row buffer, reading `g`. -/
def rPts (r : Memref sig .scVector .vmem S160x128 .f32) (g : S160x128.Idx → Elt F .f32) : sProp 𝕄 :=
  iprop(∃ f, (r.view.loc (tile d L) ↦[r.view.set]{fullShare} f) ∗ ⌜r.view.read (Elt F) f = g⌝)

/-- The list of factors, of the chunk that starts at edge `b`. -/
abbrev vPts (b : ℕ) : sProp 𝕄 := (vB).view.loc (tile d L) ↦[Finset.univ]{fullShare} invC m d b

end Held

end Cert.EdgeProof

end
-- ==== Proof.EdgeBar.lean ====
/-
  The subcore barrier of `Edge`. Every tile owes, from the launch, one unit on the barrier semaphore of each tile of its
  SparseCore, and holds credit for the sixteen units of its own. A barrier semaphore goes through one round, of one unit
  from each of the sixteen tiles; nothing but the units passes.
-/
module

public import proofs.«01_k».proof.Proof.EdgeBase

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The ghost state: the handshakes' part and the barriers' part -/

abbrev EH : Emb UH (MT nD τ sig (HIx 1) (Elt F) ℕ UU ℕ) := embL

def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

theorem own_parts (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-! ## The cells and their one round -/

/-- A vector subcore, of whichever device and SparseCore. -/
abbrev Tile : Type := Dev nD × Fin τ.nSC × Fin τ.nSub

/-- Its barrier semaphore. -/
abbrev bcell (t : Tile) : GSem nD τ sig := (V t.1 t.2.1 t.2.2, .reg sc_bar0)
/-- The barrier semaphore of the `j`-th tile beside it. -/
abbrev peer (t : Tile) (j : Fin (grid0.bound 1)) : GSem nD τ sig := bcell (t.1, t.2.1, j.castLE hsub0)

theorem bar_ne_go : (sc_bar0 : Sem sig) ≠ (K (F := F)).go := show (sc_bar0 : Sem sig) ≠ sc_go by decide

theorem bcell_injective : Function.Injective (bcell : Tile → GSem nD τ sig) := by
  rintro ⟨d, c, i⟩ ⟨d', c', i'⟩ e
  obtain ⟨h, h'⟩ := Prod.mk.inj (Prod.mk.inj e).1
  obtain ⟨hc, hi⟩ := Proc.scVector.inj h'
  exact Prod.ext h (Prod.ext hc hi)

def isBar : GSem nD τ sig → Bool
  | ((_, .scVector _ _), s) => decide (s = .reg sc_bar0)
  | _ => false

def bRd : Rounds.Schedule (GSem nD τ sig) ℕ 𝕄 where
  duties g r := if isBar g = true ∧ r = 0 then (Finset.univ : Finset (Fin τ.nSub)).image Fin.val else ∅
  amount _ _ _ := 1
  payload _ _ _ := iprop(emp)
  amount_pos _ _ _ _ := Nat.one_pos

instance bRd_storable (g : GSem nD τ sig) (r n : ℕ) : BI.Storable (upEmb : UEmb _ 𝕄) ((bRd (F := F)).payload g r n) :=
  (inferInstance : BI.Storable (upEmb : UEmb _ 𝕄) (iprop(emp) : sProp 𝕄))

theorem bRd_first (t : Tile) : (bRd (F := F)).duties (bcell t) 0 = (Finset.univ : Finset (Fin τ.nSub)).image Fin.val := by
  simp [bRd, isBar]
theorem bRd_later (g : GSem nD τ sig) (r : ℕ) (hr : 1 ≤ r) : (bRd (F := F)).duties g r = ∅ :=
  if_neg fun h => by omega
theorem bRd_mem (t : Tile) (i : Fin τ.nSub) : i.val ∈ (bRd (F := F)).duties (bcell t) 0 := by
  rw [bRd_first]; exact Finset.mem_image_of_mem _ (Finset.mem_univ i)
theorem bRd_units (t : Tile) : 0 + grid0.bound 1 = (bRd (F := F)).expect (bcell t) 0 := by
  unfold Rounds.Schedule.expect
  rw [bRd_first]
  show 0 + 16 = ∑ x ∈ (Finset.univ : Finset (Fin 16)).image Fin.val, 1
  rw [Finset.sum_const, Finset.card_image_of_injective _ Fin.val_injective]; rfl

/-! ## What a tile owes and is dealt -/

/-- A unit on every barrier semaphore of its SparseCore. -/
def oxV (d : Dev nD) (c : Fin τ.nSC) : CellTallies nD τ sig (HIx 1) :=
  ∑ j : Fin (grid0.bound 1), tallyAt (bcell (d, c, j.castLE hsub0)) (some 0) 1

theorem oxV_apply (d : Dev nD) (c : Fin τ.nSC) (g : GSem nD τ sig) (ι : HIx 1) :
    oxV d c g ι = ∑ j : Fin (grid0.bound 1), if g = bcell (d, c, j.castLE hsub0) ∧ ι = some 0 then 1 else 0 := by
  unfold oxV
  rw [Finset.sum_apply, Finsupp.finsetSum_apply]
  exact Finset.sum_congr rfl fun j _ => tallyAt_apply ..

theorem oxV_none (d : Dev nD) (c : Fin τ.nSC) (g : GSem nD τ sig) : oxV d c g none = 0 := by
  rw [oxV_apply]
  exact Finset.sum_eq_zero fun j _ => if_neg fun e => nomatch e.2

theorem oxV_pos {d : Dev nD} {c : Fin τ.nSC} {g : GSem nD τ sig} {ι : HIx 1} (h : 0 < oxV d c g ι) :
    ∃ j : Fin (grid0.bound 1), g = bcell (d, c, j.castLE hsub0) ∧ ι = some 0 := by
  rw [oxV_apply] at h
  obtain ⟨j, -, hj⟩ := Finset.exists_ne_zero_of_sum_ne_zero (Nat.pos_iff_ne_zero.mp h)
  exact ⟨j, by by_contra e; exact hj (if_neg e)⟩

/-- What lies on every barrier semaphore for whoever asks. -/
def bOpen : sProp 𝕄 :=
  iprop((∃ κ : GSem nD τ sig → ℕ, bigSep Finset.univ fun t : Tile => cellInv EB (bRd (F := F)) (κ (bcell t)) (bcell t))
    ∗ bigSep Finset.univ fun t : Tile => reached EB (bcell t) 0)

/-- What tile `t` alone holds of the barrier: its place, its arrivals, and the credit for its own semaphore. -/
def bOwn (t : Tile) : sProp 𝕄 :=
  iprop(atPos EB (bcell t) 0 ∅ 0 ∗ (bigSep Finset.univ fun j : Fin (grid0.bound 1) => dutyTok EB (peer t j) 0 t.2.2.val)
    ∗ cred (tallyAt (bcell t) (some 0) (grid0.bound 1)))

/-- What tile `t` goes through the barrier with. -/
def bkit (t : Tile) : sProp 𝕄 := iprop(bOpen (F := F) ∗ bOwn t)

instance bOpen_persistent : BI.Persistent (bOpen (F := F)) := by unfold bOpen; infer_instance

/-! ## What the launch makes of the free semaphores -/

def bCells : Finset (GSem nD τ sig) := Finset.univ.image bcell
def bToks : Finset (GSem nD τ sig × ℕ × ℕ) :=
  (Finset.univ : Finset (Tile × Fin (grid0.bound 1))).image fun x => (peer x.1 x.2, 0, x.1.2.2.val)

theorem bCells_all (Φ : GSem nD τ sig → sProp 𝕄) : bigSep bCells Φ = bigSep Finset.univ fun t : Tile => Φ (bcell t) :=
  SparseCore.bigSep_image_of_injOn (fun _ _ _ _ e => bcell_injective e) Φ

theorem bToks_all :
    (bigSep bToks fun x => (dutyTok EB x.1 x.2.1 x.2.2 : sProp 𝕄))
      = bigSep Finset.univ fun t : Tile => bigSep Finset.univ fun j : Fin (grid0.bound 1) => dutyTok EB (peer t j) 0 t.2.2.val := by
  unfold bToks
  rw [SparseCore.bigSep_image_of_injOn, bigSep_univ_prod]
  rintro ⟨⟨d, c, i⟩, j⟩ - ⟨⟨d', c', i'⟩, j'⟩ - e
  obtain ⟨h1, h2⟩ := Prod.mk.inj e
  obtain ⟨hd, h1⟩ := Prod.mk.inj (bcell_injective h1)
  obtain ⟨hc, hj⟩ := Prod.mk.inj h1
  exact Prod.ext (Prod.ext hd (Prod.ext hc (Fin.ext (Prod.mk.inj h2).2))) (Fin.castLE_injective hsub0 hj)

theorem bInv_alloc (G : Finset (GSem nD τ sig)) :
    iprop((bigSep G fun g => (semVal g 0 : sProp 𝕄)) ∗ bigSep G fun g => roundState EB (bRd (F := F)) g 0)
      ⊢ |={Set.univ}=> iprop(∃ κ : GSem nD τ sig → ℕ, bigSep G fun g => cellInv EB (bRd (F := F)) (κ g) g) :=
  (Rounds.bodies_intro EB (bRd (F := F)) G).trans
    ((inv_alloc_family G (Rounds.body EB (bRd (F := F))) ∅ (E := Set.univ)).trans (fupd_mono (Laws.exists_mono fun _ => BIClass.and_elim_r)))

theorem bCells_alloc (G : Finset (GSem nD τ sig)) (T : Finset (GSem nD τ sig × ℕ × ℕ)) :
    iprop((bigSep G fun g => (semVal g 0 : sProp 𝕄)) ∗ BI.own (EB (initOf G T)))
      ⊢ |={Set.univ}=> iprop(((∃ κ : GSem nD τ sig → ℕ, bigSep G fun g => cellInv EB (bRd (F := F)) (κ g) g) ∗ bigSep G fun g => reached EB g 0)
          ∗ (bigSep G fun g => atPos EB g 0 ∅ 0) ∗ bigSep T fun x => dutyTok EB x.1 x.2.1 x.2.2) := by
  iintro ⟨Hs, HB⟩
  imod (Rounds.fund EB (bRd (F := F)) G T) $$ HB with ⟨Hst, #Hr, Hat, Htok⟩
  imod (bInv_alloc (F := F) G) $$ [Hs Hst] with ⟨%κ, #Hinv⟩
  · isplitl [Hs] <;> iassumption
  imodintro
  isplitr
  · isplitr
    · iexists κ; iexact Hinv
    · iexact Hr
  isplitl [Hat]; · iexact Hat
  iexact Htok

theorem bOpen_alloc : iprop((bigSep Finset.univ fun t : Tile => (semVal (bcell t) 0 : sProp 𝕄)) ∗ BI.own (EB (initOf bCells bToks)))
    ⊢ |={Set.univ}=> iprop(bOpen (F := F) ∗ (bigSep Finset.univ fun t : Tile => atPos EB (bcell t) 0 ∅ 0)
        ∗ bigSep Finset.univ fun t : Tile => bigSep Finset.univ fun j : Fin (grid0.bound 1) => dutyTok EB (peer t j) 0 t.2.2.val) := by
  have h := bCells_alloc (F := F) bCells bToks
  simp only [bCells_all, bToks_all] at h
  exact h

/-- The barrier semaphores are free ones. -/
theorem bars_free : ((K (F := F)).freeOn (· ∈ bCells) : sProp 𝕄) ⊢ bigSep Finset.univ fun t : Tile => semVal (bcell t) 0 := by
  unfold SparseCore.Cfg.freeOn
  refine sep_elim_right.trans (bigSep_mono fun t _ => ?_)
  exact bigSep_elim (Φ := fun s : SemLoc sig => (semVal (V t.1 t.2.1 t.2.2, s) 0 : sProp 𝕄)) (Finset.mem_filter.mpr
    ⟨Finset.mem_erase.mpr ⟨fun h => bar_ne_go (F := F) (SemLoc.reg.inj h), Finset.mem_filter.mpr ⟨Finset.mem_univ _, by decide⟩⟩,
      Finset.mem_image_of_mem bcell (Finset.mem_univ t)⟩)

theorem cred_units (g : GSem nD τ sig) (ι : HIx 1) (n : ℕ) : ∑ _ : Fin n, tallyAt g ι 1 = (tallyAt g ι n : CellTallies nD τ sig (HIx 1)) := by
  induction n with
  | zero => rw [Finset.univ_eq_empty, Finset.sum_empty, tallyAt_zero]
  | succ n ih => rw [Fin.sum_univ_castSucc, ih, tallyAt_add]

/-- The credit for what the tiles owe, each tile's own semaphore's together. -/
theorem cred_tiles :
    (bigSep Finset.univ fun t : Tile => (cred (oxV t.1 t.2.1) : sProp 𝕄)) = bigSep Finset.univ fun t : Tile => cred (tallyAt (bcell t) (some 0) (grid0.bound 1)) := by
  rw [bigSep_univ_prod, bigSep_univ_prod (fun t : Tile => (cred (tallyAt (bcell t) (some 0) (grid0.bound 1)) : sProp 𝕄))]
  refine bigSep_congr fun d _ => ?_
  rw [bigSep_univ_prod, bigSep_univ_prod (fun ci : Fin τ.nSC × Fin τ.nSub => (cred (tallyAt (bcell (d, ci)) (some 0) (grid0.bound 1)) : sProp 𝕄))]
  refine bigSep_congr fun c _ => ?_
  unfold oxV
  simp only [SparseCore.Cfg.cred_finsum]
  rw [bigSep_univ_comm]
  refine bigSep_congr fun j _ => ?_
  rw [← SparseCore.Cfg.cred_finsum]
  exact congrArg cred (cred_units _ _ _)

/-- What lies open for all goes to each. -/
theorem bigSep_with {I : Type} [DecidableEq I] {R : sProp 𝕄} [BI.Persistent R] {s : Finset I} {Φ : I → sProp 𝕄} :
    iprop(R ∗ bigSep s Φ) ⊢ bigSep s fun i => iprop(R ∗ Φ i) := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · isplitr; · iexact HR
      iexact Ha
    · iapply ih
      isplitr; · iexact HR
      iexact Hs

theorem bigSep_emp' {I : Type} (s : Finset I) : (bigSep s fun _ => iprop(emp)) = (iprop(emp) : sProp 𝕄) := bigSep_emp_const s

theorem bigSep_of {I : Type} [DecidableEq I] {R : sProp 𝕄} [BI.Persistent R] {s : Finset I} {Ψ : I → sProp 𝕄} (h : ∀ i, R ⊢ Ψ i) :
    R ⊢ bigSep s Ψ := by
  have hw := bigSep_with (F := F) (R := R) (s := s) (Φ := fun _ => iprop(emp))
  rw [bigSep_emp'] at hw
  iintro #HR
  iapply (SparseCore.ent (bigSep_mono (Φ := fun _ : I => iprop(R ∗ emp)) fun i _ => sep_elim_left.trans (h i)))
  iapply hw
  isplitr; · iexact HR
  iempintro

theorem kits : iprop(bOpen (F := F) ∗ (bigSep Finset.univ fun t : Tile => atPos EB (bcell t) 0 ∅ 0)
      ∗ (bigSep Finset.univ fun t : Tile => bigSep Finset.univ fun j : Fin (grid0.bound 1) => dutyTok EB (peer t j) 0 t.2.2.val)
      ∗ bigSep Finset.univ fun t : Tile => cred (tallyAt (bcell t) (some 0) (grid0.bound 1)))
    ⊢ bigSep Finset.univ fun t : Tile => bkit (F := F) t := by
  unfold bkit
  refine BI.Entails.trans ?_ bigSep_with
  unfold bOwn
  rw [bigSep_sep', bigSep_sep']
  exact BI.Entails.refl _

end Cert.EdgeProof

end
-- ==== Proof.EdgeScale.lean ====
/-
  One inner loop of `Edge`: 160 trips, each scaling one row of a row buffer by its factor, sixteen lanes at a time. The
  sixteen printed loops are one program (`scaleBody`) at different offsets into the list of factors and on one or the
  other row buffer; it is proved once, for any of them (`wp_scale`).
-/
module

public import proofs.«01_k».proof.Proof.EdgeBase

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev TProg (F : FTy → Type) (L : grid0.Coords) (α : Type) : Type 1 :=
  Prog (TpuEff nD τ sig (Elt F) Λ₀ (.scVector (cV L) (jV L))) α

variable (m : (ℓ : Loc nD τ sig) → Buf (Elt F) ℓ) (d : Dev nD) (L : grid0.Coords)

/-- Sixteen lanes of one row: read, read again (the second read is not used), and stored. -/
def laneP (r : Memref sig .scVector .vmem S160x128 .f32) (off : Fin 2 → ℕ) (inb : ∀ a, off a + S1x16.size a ≤ S160x128.size a)
    (pay : Vec F S1x16 .f32 → FVec F S16 .f32) : TProg F L PUnit := do
  let ld : Vec F S1x16 .f32 ← Prog.lift (.load r (Rect.unit (s := S160x128) off S1x16.size inb).toLoadRect (View.loadsAt_vmem h_S1x16))
  let _ : Vec F S1x16 .f32 ← Prog.lift (.load r (Rect.unit (s := S160x128) off S1x16.size inb).toLoadRect (View.loadsAt_vmem h_S1x16))
  Prog.lift (.store r (Rect.unit (s := S160x128) off S1x16.size inb) (shapeCast S1x16 (pay ld) shapeCasts_S16_S1x16) Finset.univ
    (View.stores_vmem_bits_univ h_S1x16 rfl) (.inl rfl))

/-- One trip: the factor of row `k` read in every lane, then the row's eight pieces. -/
def scaleBody (r : Memref sig .scVector .vmem S160x128 .f32) (w : BitVec 32) (k : Fin k0_t2_loop.trips) : TProg F L PUnit := do
  let v399 : IVec S16 32 := broadcast S16 (Scalar.addi w (Scf.iv 0#32 1#32 k))
  have hw : k0_chk1 v399 := (← Prog.lift (TpuEff.assume (k0_chk1 v399) (k0_chk1.dec v399))).down
  let v : Vec F S16 .f32 ← SparseCore.vectorLoadIdx vB ![v399] (k0_idx1_inb v399 hw) (View.loads_vmem h_S2560)
  laneP L r (k0_off4 k) (k0_off4_inb k) (k0_pay1 v)
  laneP L r (k0_off5 k) (k0_off5_inb k) (k0_pay2 v)
  laneP L r (k0_off6 k) (k0_off6_inb k) (k0_pay3 v)
  laneP L r (k0_off7 k) (k0_off7_inb k) (k0_pay4 v)
  laneP L r (k0_off8 k) (k0_off8_inb k) (k0_pay5 v)
  laneP L r (k0_off9 k) (k0_off9_inb k) (fun ld => k0_pay1 v ld)
  laneP L r (k0_off10 k) (k0_off10_inb k) (fun ld => k0_pay1 v ld)
  laneP L r (k0_off11 k) (k0_off11_inb k) (fun ld => k0_pay1 v ld)

theorem cast16 (ld : Vec F S1x16 .f32) (v : Vec F S16 .f32) (x : S1x16.Idx) :
    shapeCast S1x16 (mulf (shapeCast S16 ld shapeCasts_S1x16_S16) v) shapeCasts_S16_S1x16 x
      = FloatOps.mulf (ld x) (v (fun a => x a.succ)) := by
  refine (shapeCast_addUnit_apply ![16] _ shapeCasts_S16_S1x16 x).trans ?_
  show FloatOps.mulf (shapeCast S16 ld shapeCasts_S1x16_S16 (fun a => x a.succ)) _ = _
  congr 1
  refine (shapeCast_dropUnit_apply ![16] ld shapeCasts_S1x16_S16 _).trans (congrArg ld ?_)
  funext a
  match a with
  | 0 => exact Fin.ext (by have h : (x 0).val < 1 := (x 0).isLt; show 0 = (x 0).val; omega)
  | 1 => rfl

theorem wp_lane (r : Memref sig .scVector .vmem S160x128 .f32) {off : Fin 2 → ℕ} {inb : ∀ a, off a + S1x16.size a ≤ S160x128.size a}
    {pay : Vec F S1x16 .f32 → FVec F S16 .f32} {v : Vec F S16 .f32} {b e l : ℕ} {Φ : PUnit → sProp 𝕄}
    (hoff : off = ![e, l]) (hpay : ∀ ld, pay ld = mulf (shapeCast S16 ld shapeCasts_S1x16_S16) v) (hv : ∀ x, v x = nvAt m d (b + e)) :
    rPts d L r (part m d b e l)
      ⊢ iprop((rPts d L r (part m d b e (l + 16)) -∗ Φ ⟨⟩)
          -∗ wp frame (wpE (defs₀ (F := F)) 𝒱₀ (tile d L) none) Set.univ (laneP L r off inb pay) Φ) := by
  subst hoff
  obtain rfl : pay = _ := funext hpay
  unfold rPts laneP
  simp only [wp_bind]
  iintro ⟨%f, Hr, %hf⟩ Hk
  iapply (wp_load_rect (defs := defs₀ (F := F)) 𝒱₀ (tile d L) none Set.univ (m := r) (r := Rect.unit (s := S160x128) ![e, l] S1x16.size inb) (k := Prog.ret) (View.set_slice_subset r.view _)) $$ Hr
  iintro Hr
  simp only [wp_ret, fupd_wp_eq]
  iapply (wp_load_rect (defs := defs₀ (F := F)) 𝒱₀ (tile d L) none Set.univ (m := r) (r := Rect.unit (s := S160x128) ![e, l] S1x16.size inb) (k := Prog.ret) (View.set_slice_subset r.view _)) $$ Hr
  iintro Hr
  simp only [wp_ret, fupd_wp_eq]
  iapply (wp_store (defs := defs₀ (F := F)) 𝒱₀ (tile d L) none Set.univ (m := r) (r := Rect.unit (s := S160x128) ![e, l] S1x16.size inb) (k := Prog.ret) (View.set_slice_subset r.view _)) $$ Hr
  iintro Hr
  rw [wp_ret]
  imodintro
  iapply Hk
  iexists _; isplitl [Hr]; · iexact Hr
  ipureintro
  funext y
  have hlt0 : (y 0).val < 160 := (y 0).isLt
  by_cases hy : (y 0).val = e ∧ l ≤ (y 1).val ∧ (y 1).val < l + 16
  · obtain ⟨h0, h1, h2⟩ := hy
    have hx : (Rect.unit (s := S160x128) ![e, l] S1x16.size inb).emb
        (ValueIdx.ix2 (n0 := 1) (n1 := 16) 0 ⟨(y 1).val - l, by omega⟩ : S1x16.Idx) = y := by
      refine Rect.emb_eq_of_coords _ _ _ fun a => ?_
      match a with
      | 0 => show (y 0).val = e + 1 * 0; omega
      | 1 => show (y 1).val = l + 1 * ((y 1).val - l); omega
    rw [← hx]
    refine (View.read_slice_write_emb (v := r.view) _ f _ (Finset.mem_univ _)).trans ?_
    refine (cast16 _ v _).trans ((congrArg (FloatOps.mulf _) (hv _)).trans ?_)
    have hld : r.view.read (Elt F) f ((Rect.unit (s := S160x128) ![e, l] S1x16.size inb).emb
        (ValueIdx.ix2 (n0 := 1) (n1 := 16) 0 ⟨(y 1).val - l, by omega⟩ : S1x16.Idx)) = gv m d (b + e) (y 1).val := by
      rw [hx]
      refine (congrFun hf y).trans ?_
      unfold part
      rw [if_neg (by omega), h0]
    refine (congrArg (FloatOps.mulf · _) hld).trans ?_
    rw [hx]
    unfold part
    rw [if_pos (by omega), h0]
    rfl
  · have hn : y ∉ Finset.univ.map (Rect.unit (s := S160x128) ![e, l] S1x16.size inb).emb := by
      rw [Rect.map_emb_univ, Rect.mem_set_unit]
      intro h
      have h0 := h 0
      have h1 := h 1
      exact hy ⟨by have := h0.1; have := h0.2; simp at *; omega, h1.1, h1.2⟩
    refine (View.read_slice_write_of_not_mem (v := r.view) _ f _ _ hn).trans ((congrFun hf y).trans ?_)
    unfold part
    exact if_congr (by omega) rfl rfl

/-- What the lanes of a trip multiply by: every lane reads the list of factors at the trip's row. -/
theorem load_lane {b w : ℕ} (wv : IVec S16 32) (hw : ∀ x, (wv x).toNat = w)
    (h : ∀ a x, ((![wv] : Fin 1 → IVec S16 32) a x).toNat < S2560.size a) (x : S16.Idx) :
    loadIdx (F := F) (s := S2560) (e := .f32) (((vB).access (.whole S2560)).read (Elt F) (invC m d b)) ![wv] h x = nvAt m d (b + w) := by
  rw [← hw x]
  show nvAt m d (b + (0 + 1 * (wv x).toNat)) = _
  rw [Nat.zero_add, Nat.one_mul]

theorem wp_scaleBody (r : Memref sig .scVector .vmem S160x128 .f32) {w : BitVec 32} {b : ℕ} (hw : w.toNat + 160 ≤ 2560)
    (k : Fin k0_t2_loop.trips) {Φ : PUnit → sProp 𝕄} :
    iprop(rPts d L r (part m d (b + w.toNat) k.val 0) ∗ vPts m d L b)
      ⊢ iprop((rPts d L r (part m d (b + w.toNat) (k.val + 1) 0) -∗ vPts m d L b -∗ Φ ⟨⟩)
          -∗ wp frame (wpE (defs₀ (F := F)) 𝒱₀ (tile d L) none) Set.univ (scaleBody L r w k) Φ) := by
  have hk : k.val < 160 := k.isLt
  have hiv : (Scalar.addi w (Scf.iv 0#32 1#32 k)).toNat = w.toNat + k.val := by
    show (w + Scf.iv 0#32 1#32 k).toNat = _
    simp only [Scf.iv, BitVec.toNat_add, BitVec.toNat_mul, BitVec.toNat_ofNat]
    omega
  have hchk : k0_chk1 (broadcast S16 (Scalar.addi w (Scf.iv 0#32 1#32 k))) := fun a x => by
    match a with
    | 0 => show (Scalar.addi w (Scf.iv 0#32 1#32 k)).toNat < 2560; omega
  unfold scaleBody
  simp only [wp_bind]
  iintro ⟨Hr, Hv⟩ Hk
  iapply (wp_assume (defs := defs₀ (F := F)) 𝒱₀ (tile d L) none Set.univ (k := Prog.ret) hchk)
  simp only [wp_ret, fupd_wp_eq]
  unfold SparseCore.vectorLoadIdx
  iapply (wp_load_rect (defs := defs₀ (F := F)) 𝒱₀ (tile d L) none Set.univ (m := vB) (r := Rect.whole S2560)
    (S := Finset.univ) (Finset.subset_univ _)) $$ Hv
  iintro Hv
  simp only [wp_ret, fupd_wp_eq]
  have hv := fun x => (load_lane m d (b := b) _ (fun _ => hiv) (k0_idx1_inb (broadcast S16 (Scalar.addi w (Scf.iv 0#32 1#32 k))) hchk) x).trans
    (congrArg (nvAt m d) (Nat.add_assoc b w.toNat k.val).symm)
  iapply (wp_lane m d L r (k0_off4_eq k) (fun _ => rfl) hv) $$ Hr
  iintro Hr
  iapply (wp_lane m d L r (k0_off5_eq k) (fun _ => rfl) hv) $$ Hr
  iintro Hr
  iapply (wp_lane m d L r (k0_off6_eq k) (fun _ => rfl) hv) $$ Hr
  iintro Hr
  iapply (wp_lane m d L r (k0_off7_eq k) (fun _ => rfl) hv) $$ Hr
  iintro Hr
  iapply (wp_lane m d L r (k0_off8_eq k) (fun _ => rfl) hv) $$ Hr
  iintro Hr
  iapply (wp_lane m d L r (k0_off9_eq k) (fun _ => rfl) hv) $$ Hr
  iintro Hr
  iapply (wp_lane m d L r (k0_off10_eq k) (fun _ => rfl) hv) $$ Hr
  iintro Hr
  iapply (wp_lane m d L r (k0_off11_eq k) (fun _ => rfl) hv) $$ Hr
  iintro Hr
  ihave Hr := (Entails.of_eq (congrArg (rPts d L r) (part_row m d (b + w.toNat) k.val))) $$ Hr
  iapply Hk $$ Hr Hv

/-- Scaling a row buffer: any loop whose trips are `scaleBody`'s. -/
theorem wp_scale (r : Memref sig .scVector .vmem S160x128 .f32) {w : BitVec 32} {b : ℕ} (hw : w.toNat + 160 ≤ 2560)
    {hok : k0_t2_loop.OK} {bd : Fin k0_t2_loop.trips → Unit → TProg F L Unit} (hbd : ∀ k u, bd k u = scaleBody L r w k)
    {Φ : Unit → sProp 𝕄} :
    iprop(rPts d L r (part m d (b + w.toNat) 0 0) ∗ vPts m d L b)
      ⊢ iprop((rPts d L r (part m d (b + w.toNat) 160 0) -∗ vPts m d L b -∗ Φ ⟨⟩)
          -∗ wp frame (wpE (defs₀ (F := F)) 𝒱₀ (tile d L) none) Set.univ (Scf.Loop.for k0_t2_loop hok ⟨⟩ bd) Φ) := by
  iintro H Hk
  iapply (Scf.wp_for frame (wpE (defs₀ (F := F)) 𝒱₀ (tile d L) none) Set.univ _ _ _ hok ⟨⟩ bd
    (fun k _ => iprop(rPts d L r (part m d (b + w.toNat) k 0) ∗ vPts m d L b)) (fun k u => by
      rw [hbd]
      iintro H
      iapply (wp_scaleBody m d L r hw k) $$ H
      iintro Hr Hv
      isplitl [Hr]; · iexact Hr
      iexact Hv))
  isplitl [H]; · iexact H
  rw [show Scf.trips k0_t2_loop.lb k0_t2_loop.ub k0_t2_loop.st = 160 from rfl]
  iintro %acc ⟨Hr, Hv⟩
  iapply Hk $$ Hr Hv

end Cert.EdgeProof

end
-- ==== Proof.EdgeProg.lean ====
/-
  One chunk of `Edge` as a program of stages: the three list loads, and per window of 160 rows its gather issued, its
  gather waited for, its rows scaled, its rows stored in two halves, and the stores waited for. The printed trip does
  the same operations in the same order, spread over nineteen printed parts (`wp_chunk_eq`).
-/
module

public import proofs.«01_k».proof.Proof.EdgeScale

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (L : grid0.Coords)

/-- The row buffer that even windows (`false`) and odd windows (`true`) use, and their gather and store semaphores. -/
abbrev rb : Bool → Memref sig .scVector .vmem S160x128 .f32 | false => r0 | true => r1
abbrev gs : Bool → DmaSems sig S_ | false => cc0_scratch6 | true => cc0_scratch7
abbrev ss : Bool → DmaSems sig S_ | false => cc0_scratch8 | true => cc0_scratch9

/-- The table as a gather addresses it. -/
abbrev tS : Memref sig .scVector .hbm S80000x128 .f32 :=
  (tV).slice (Rect.unit (s := S80000x128) ![0, 0] S80000x128.size inb_S80000x128_S80000x128_0_0) (fun _ => rfl)

theorem inb_win (k : Fin 16) : ∀ a, (![160 * k.val] : Fin 1 → ℕ) a + S160.size a ≤ S2560.size a := fun a => by
  match a with
  | 0 => show 160 * k.val + 160 ≤ 2560; omega

theorem inb_half (h : Fin 2) : ∀ a, (![80 * h.val, 0] : Fin 2 → ℕ) a + S80x128.size a ≤ S160x128.size a := fun a => by
  match a with
  | 0 => show 80 * h.val + 80 ≤ 160; omega
  | 1 => show 0 + 128 ≤ 128; omega

/-- Window `k` of the list of row numbers, and half `h` of a row buffer. -/
abbrev iW (k : Fin 16) : Memref sig .scVector .vmem S160 .i32 :=
  (iB).slice (Rect.unit (s := S2560) ![160 * k.val] S160.size (inb_win k)) (fun _ => rfl)
abbrev rH (p : Bool) (h : Fin 2) : Memref sig .scVector .vmem S80x128 .f32 :=
  (rb p).slice (Rect.unit (s := S160x128) ![80 * h.val, 0] S80x128.size (inb_half h)) (fun _ => rfl)

/-- The chunk's part of the lists in the chip's memory. -/
abbrev fC (t : Fin k0_t1_loop.trips) : Memref sig .scVector .hbm S2560 .i32 :=
  (fV).slice (Rect.unit (s := S327680) (k0_off2 L t) S2560.size (k0_off2_inb L t)) (fun _ => rfl)
abbrev nC (t : Fin k0_t1_loop.trips) : Memref sig .scVector .hbm S2560 .f32 :=
  (nV).slice (Rect.unit (s := S327680) (k0_off2 L t) S2560.size (k0_off2_inb L t)) (fun _ => rfl)

/-- The chunk's destination rows in the chip's memory. -/
abbrev dC (t : Fin k0_t1_loop.trips) : Memref sig .scVector .hbm S32x80 .i32 :=
  (dV).slice (Rect.unit (s := S4096x80) (k0_off3 L t) S32x80.size (k0_off3_inb L t)) (fun _ => rfl)

/-- Where half `h` of window `k` goes in the result. -/
abbrev oOff (t : Fin k0_t1_loop.trips) (k : Fin 16) : Fin 2 → Fin 2 → ℕ
  | 0 => k0_off12 L t (BitVec.ofNat 32 (160 * k.val))
  | 1 => k0_off13 L t (BitVec.ofNat 32 (160 * k.val))
theorem oOff_inb (t : Fin k0_t1_loop.trips) (k : Fin 16) (h : Fin 2) : ∀ a, oOff L t k h a + S80x128.size a ≤ S327680x128.size a :=
  match h with
  | 0 => k0_off12_inb L t k
  | 1 => k0_off13_inb L t k
abbrev oW (t : Fin k0_t1_loop.trips) (k : Fin 16) (h : Fin 2) : Memref sig .scVector .hbm S80x128 .f32 :=
  (oV).slice (Rect.unit (s := S327680x128) (oOff L t k h) S80x128.size (oOff_inb L t k h)) (fun _ => rfl)

/-! ## The stages -/

def loadF (t : Fin k0_t1_loop.trips) : TProg F L PUnit :=
  Prog.lift (.enqueueDma (fC L t) (.here iB) (.dma cc0_scratch10.sem) (View.wordExact_bits rfl) (View.wordExact_bits rfl) ⟨Or.inl rfl, trivial⟩)
def loadN (t : Fin k0_t1_loop.trips) : TProg F L PUnit :=
  Prog.lift (.enqueueDma (nC L t) (.here vB) (.dma cc0_scratch10.sem) (View.wordExact_bits rfl) (View.wordExact_bits rfl) ⟨Or.inl rfl, trivial⟩)
def loadD (t : Fin k0_t1_loop.trips) : TProg F L PUnit :=
  Prog.lift (.enqueueDma (dC L t) (.here dB) (.dma cc0_scratch11.sem) (View.wordExact_bits rfl) (View.wordExact_bits rfl) ⟨Or.inl rfl, trivial⟩)
def waitF (t : Fin k0_t1_loop.trips) : TProg F L PUnit :=
  Prog.lift (.waitDma2 cc0_scratch10.sem (fC L t) iB (View.wordExact_bits rfl) (View.wordExact_bits rfl))
def waitN (t : Fin k0_t1_loop.trips) : TProg F L PUnit :=
  Prog.lift (.waitDma2 cc0_scratch10.sem (nC L t) vB (View.wordExact_bits rfl) (View.wordExact_bits rfl))
def waitD (t : Fin k0_t1_loop.trips) : TProg F L PUnit :=
  Prog.lift (.waitDma2 cc0_scratch11.sem (dC L t) dB (View.wordExact_bits rfl) (View.wordExact_bits rfl))

def gIssue (p : Bool) (k : Fin 16) : TProg F L PUnit :=
  SparseCore.enqueueIndirectGather rfl tS (rb p) gathers_S80000x128_S160x128 (iW k) rfl (gs p).sem (View.wordExact_bits rfl) rfl (Or.inl rfl)
def gWait (p : Bool) : TProg F L PUnit :=
  SparseCore.waitIndirectGather (gs p).sem tS (rb p) (View.wordExact_bits rfl) (View.wordExact_bits rfl)
def scaleW (p : Bool) (k : Fin 16) : TProg F L Unit :=
  Scf.Loop.for k0_t2_loop k0_t2_ok ⟨⟩ (fun e _ => scaleBody L (rb p) (BitVec.ofNat 32 (160 * k.val)) e)
def sIssue (t : Fin k0_t1_loop.trips) (p : Bool) (k : Fin 16) (h : Fin 2) : TProg F L PUnit :=
  Prog.lift (.enqueueDma (rH p h) (.here (oW L t k h)) (.dma (ss p).sem) (View.wordExact_bits rfl) (View.wordExact_bits rfl) ⟨Or.inl rfl, trivial⟩)
def sWait (t : Fin k0_t1_loop.trips) (p : Bool) (k : Fin 16) (h : Fin 2) : TProg F L PUnit :=
  Prog.lift (.waitDma2 (ss p).sem (rH p h) (oW L t k h) (View.wordExact_bits rfl) (View.wordExact_bits rfl))

/-- A window whose gather is in flight: waited for, scaled, its stores issued. -/
def workP (t : Fin k0_t1_loop.trips) (p : Bool) (k : Fin 16) : TProg F L PUnit := do
  gWait L p
  scaleW L p k
  sIssue L t p k 0
  sIssue L t p k 1

/-- The other buffer's stores waited for, and the next window's gather issued into it; then the window's own work. -/
def midP (t : Fin k0_t1_loop.trips) (p : Bool) (j k k' : Fin 16) : TProg F L PUnit := do
  sWait L t (!p) j 0
  sWait L t (!p) j 1
  gIssue L (!p) k'
  workP L t p k

/-- `n` windows of the middle, from `k` on. -/
def midsP (t : Fin k0_t1_loop.trips) : (n k : ℕ) → (p : Bool) → k + n + 2 ≤ 16 → TProg F L PUnit
  | 0, _, _, _ => pure ⟨⟩
  | n + 1, k, p, h => do
    midP L t p ⟨k, by omega⟩ ⟨k + 1, by omega⟩ ⟨k + 2, by omega⟩
    midsP t n (k + 1) (!p) (by omega)

def chunkP (t : Fin k0_t1_loop.trips) : TProg F L PUnit := do
  loadF L t
  loadN L t
  loadD L t
  waitF L t
  waitN L t
  waitD L t
  gIssue L false 0
  gIssue L true 1
  workP L t false 0
  midsP L t 14 0 true (by omega)
  workP L t true 15
  sWait L t false 14 0
  sWait L t false 14 1
  sWait L t true 15 0
  sWait L t true 15 1
  pure ⟨⟩

/-- The printed trip at the call's buffers. -/
abbrev tripP (v1 : BitVec 32) (t : Fin k0_t1_loop.trips) : TProg F L Unit :=
  k0_t1_body (F := F) L tV (Memref.isWhole_whole _) fV (Memref.isWhole_whole _) dV (Memref.isWhole_whole _) nV (Memref.isWhole_whole _) zV (Memref.isWhole_whole _) oV (Memref.isWhole_whole _) aV (Memref.isWhole_whole _)
    hV (Memref.isWhole_whole _) iB (Memref.isWhole_whole _) dB (Memref.isWhole_whole _) vB (Memref.isWhole_whole _) r0 (Memref.isWhole_whole _) r1 (Memref.isWhole_whole _) cc0_scratch6 cc0_scratch7 cc0_scratch8 cc0_scratch9 cc0_scratch10 cc0_scratch11
    cc0_scoped0 cc0_scoped1 cc0_scoped2 cc0_scoped3 v1 t ⟨⟩

theorem wp_congr2 {α : Type} {d : Dev nD} {p p' : TProg F L α} {Q Q' : α → sProp 𝕄} (h : p = p') (hQ : ∀ a, Q a = Q' a) :
    wp frame (wpE (defs₀ (F := F)) 𝒱₀ (tile d L) none) Set.univ p Q
      = wp frame (wpE (defs₀ (F := F)) 𝒱₀ (tile d L) none) Set.univ p' Q' := by
  rw [h, funext hQ]

set_option maxRecDepth 65536 in
set_option maxHeartbeats 40000000 in
/-- The printed trip does the stages' operations in their order. -/
theorem wp_chunk_eq (d : Dev nD) (v1 : BitVec 32) (t : Fin k0_t1_loop.trips) (Q : PUnit → sProp 𝕄) :
    wp frame (wpE (defs₀ (F := F)) 𝒱₀ (tile d L) none) Set.univ (tripP L v1 t) Q
      = wp frame (wpE (defs₀ (F := F)) 𝒱₀ (tile d L) none) Set.univ (chunkP L t) Q := by
  unfold tripP k0_t1_body chunkP
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton,
    k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel,
    midsP, midP, workP, wp_bind, wp_pure, wp_ret, fupd_wp_eq, Bool.not_true, Bool.not_false]
  iterate 9 (refine wp_congr2 L rfl fun _ => ?_)
  iterate 14
    refine wp_congr2 L (congrArg (Scf.Loop.for k0_t2_loop k0_t2_ok PUnit.unit) (funext fun k => funext fun u => rfl)) fun _ => ?_
    iterate 6 (refine wp_congr2 L rfl fun _ => ?_)
  refine wp_congr2 L (congrArg (Scf.Loop.for k0_t2_loop k0_t2_ok PUnit.unit) (funext fun k => funext fun u => rfl)) fun _ => ?_
  iterate 3 (refine wp_congr2 L rfl fun _ => ?_)
  refine wp_congr2 L (congrArg (Scf.Loop.for k0_t2_loop k0_t2_ok PUnit.unit) (funext fun k => funext fun u => rfl)) fun _ => ?_
  iterate 6 (refine wp_congr2 L rfl fun _ => ?_)
  rfl

end Cert.EdgeProof

end
-- ==== Proof.EdgeDma.lean ====
/-
  The copies of `Edge`, one lemma per stage: a gather issued and waited for, the two halves of a row buffer stored and
  waited for, and the two list loads. Each is stated of what the tile holds before and after.
-/
module

public import proofs.«01_k».proof.Proof.EdgeProg

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- What the proof asks of the launch memory: every row number is a row of the table. -/
def PreOK : Prop := ∀ (d : Dev nD) (j : S327680.Idx), (m (fLoc d) j).toNat < 80000

/-- The waits recorded so far: beside the ones before, only those of the tile's own copies. -/
def OW (O : CellTallies nD τ sig (HIx 1)) (W : Waits sig (HIx 1)) : sProp 𝕄 :=
  iprop(Transfers.MayWaits (tile d L) (default : HIx 1) O ∗ ∃ W', ⌜∀ p ∈ W', p ∈ W ∨ p.2 = none⌝ ∗ owes (tile d L) O W')

/-! ## Gathers -/

/-- The share of the table and of the list of row numbers that each parity's gathers use. -/
abbrev qp (q : PosShare TreeShare) : Bool → PosShare TreeShare | false => q.left | true => q.right

/-- What a gather needs beside its row buffer, at rest. -/
def gIdle (q : PosShare TreeShare) (b : ℕ) (p : Bool) : sProp 𝕄 :=
  iprop(((tS).view.loc (tile d L) ↦[(tS).view.set]{qp q p} m (tLoc d))
    ∗ ((iB).view.loc (tile d L) ↦[(iB).view.set]{qp fullShare p} idxC m d b)
    ∗ semVal (tile d L, SemLoc.dma (gs p).sem) 0)

/-- Window `k`'s gather in flight. -/
def gFly (q : PosShare TreeShare) (b : ℕ) (p : Bool) (k : Fin 16) : sProp 𝕄 :=
  iprop(∃ fd g, ⌜g = part m d (b + 160 * k.val) 0 0⌝
    ∗ Transfers.Flight countersEmb (tile d L) (.dma (gs p).sem) (default : HIx 1) (rb p).view.dmaCredit
        iprop(((rb p).view.loc (tile d L) ↦[(rb p).view.set]{fullShare} (rb p).view.write (Elt F) fd g Finset.univ)
          ∗ ((tS).view.loc (tile d L) ↦[(tS).view.set]{qp q p} m (tLoc d))
          ∗ ((iW k).view.loc (tile d L) ↦[(iW k).view.set]{qp fullShare p} idxC m d b))
    ∗ ((iB).view.loc (tile d L) ↦[(iB).view.set \ (iW k).view.set]{qp fullShare p} idxC m d b))

theorem read_iW (b : ℕ) (k : Fin 16) (x : S160.Idx) :
    (iW k).view.read (Elt F) (idxC m d b) x = flAt m d (b + 160 * k.val + (x 0).val) := by
  show flAt m d (b + (160 * k.val + 1 * (x 0).val)) = _
  congr 1; omega

theorem flAt_lt (hpre : PreOK m) (n : ℕ) : (flAt m d n).toNat < 80000 := hpre d _

theorem payload_eq (hpre : PreOK m) (b : ℕ) (k : Fin 16) (hn : S160.numel = S160x128.size gathers_S80000x128_S160x128.axis')
    (hin : ∀ x, ((iW k).view.read (Elt F) (idxC m d b) x).toNat
      < S80000x128.size gathers_S80000x128_S160x128.axis) :
    SparseCore.gatherPayload gathers_S80000x128_S160x128 ((tS).view.read (Elt F) (m (tLoc d)))
        (SparseCore.rows ((iW k).view.read (Elt F) (idxC m d b)) hn hin)
      = part m d (b + 160 * k.val) 0 0 := by
  rw [part_zero]
  funext x
  unfold SparseCore.gatherPayload
  show m (tLoc d) _ = tabAt m d _ _
  unfold tabAt
  refine congrArg (m (tLoc d)) (funext fun a => Fin.ext ?_)
  have hx1 : (x 1).val < 128 := (x 1).isLt
  match a with
  | 0 =>
    have h0 := congrArg Fin.val (Shape.Gathers.idx_axis gathers_S80000x128_S160x128
      (SparseCore.rows ((iW k).view.read (Elt F) (idxC m d b)) hn hin) x)
    have hrow : ∀ j : Fin S160.numel, ((S160.rowMajor.symm j) 0).val = j.val := fun j => by
      have h := Shape.rowMajor_val_one (S160.rowMajor.symm j)
      rw [Equiv.apply_symm_apply] at h
      exact h.symm
    have hr : (SparseCore.rows ((iW k).view.read (Elt F) (idxC m d b)) hn hin (x 0)).val
        = (flAt m d (b + 160 * k.val + (x 0).val)).toNat := by
      unfold SparseCore.rows
      show BitVec.toNat _ = _
      rw [read_iW, hrow]
      rfl
    show 0 + 1 * _ = _ % 80000
    rw [Nat.mod_eq_of_lt (flAt_lt m d hpre _), ← hr, Nat.zero_add, Nat.one_mul]
    exact h0
  | 1 =>
    have h1 := Shape.Gathers.idx_of_ne gathers_S80000x128_S160x128
      (SparseCore.rows ((iW k).view.read (Elt F) (idxC m d b)) hn hin) x 1 (by decide)
    show 0 + 1 * _ = _ % 128
    rw [Nat.mod_eq_of_lt hx1, Nat.zero_add, Nat.one_mul]
    exact h1

theorem wp_gIssue (hpre : PreOK m) (q : PosShare TreeShare) (b : ℕ) (p : Bool) (k : Fin 16) {Φ : PUnit → sProp 𝕄} :
    iprop((∃ g, rPts d L (rb p) g) ∗ gIdle m d L q b p)
      ⊢ iprop((gFly m d L q b p k -∗ Φ ⟨⟩)
          -∗ wp frame (wpE (defs₀ (F := F)) 𝒱₀ (tile d L) none) Set.univ (gIssue L p k) Φ) := by
  have hin : ∀ x, ((iW k).view.read (Elt F) (idxC m d b) x).toNat
      < S80000x128.size gathers_S80000x128_S160x128.axis := fun x => by
    rw [read_iW]; exact flAt_lt m d hpre _
  have hN : ∑ j, ((rb p).slice (S160x128.rowRect gathers_S80000x128_S160x128.axis' j)
      (S160x128.stride_rowRect gathers_S80000x128_S160x128.axis' j)).view.dmaCredit = (rb p).view.dmaCredit := by
    cases p <;> decide +kernel
  unfold gIdle rPts
  iintro ⟨⟨%g, %fd, Hr, -⟩, Ht, Hi, Hs⟩ Hk
  ihave Hi := (pointsTo_split_subset (q := qp fullShare p) (f := idxC m d b) (View.set_slice_subset (iB).view (Rect.unit (s := S2560) ![160 * k.val] S160.size (inb_win k)))).1 $$ Hi
  icases Hi with ⟨Hi, Hrest⟩
  rw [show (gIssue L p k : TProg F L PUnit) = (gIssue L p k >>= Prog.ret) from rfl]
  unfold gIssue
  iapply (SparseCore.wp_indirectGatherLocal (defs := defs₀ (F := F)) countersEmb 𝒱₀ (tile d L) none (src := tS) (dst := rb p) (offs := iW k)
      (hg := gathers_S80000x128_S160x128) (k := Prog.ret) (default : HIx 1)
      (rb p).view.dmaCredit hN (by decide) hin) $$ [Ht Hr Hi Hs]
  · isplitl [Ht]; · iexact Ht
    isplitl [Hr]; · iexact Hr
    isplitl [Hi]; · iexact Hi
    iexact Hs
  iintro Hfl
  rw [wp_ret]
  imodintro
  iapply Hk
  unfold gFly
  iexists _, _
  isplitr
  swap
  · isplitl [Hfl]; · iexact Hfl
    iexact Hrest
  ipureintro
  exact payload_eq m d hpre b k rfl hin

theorem wp_gWait (q : PosShare TreeShare) (b : ℕ) (p : Bool) (k : Fin 16) {O : CellTallies nD τ sig (HIx 1)} {W : Waits sig (HIx 1)}
    {Φ : PUnit → sProp 𝕄} :
    iprop(gFly m d L q b p k ∗ OW d L O W)
      ⊢ iprop((rPts d L (rb p) (part m d (b + 160 * k.val) 0 0) -∗ gIdle m d L q b p -∗ OW d L O W -∗ Φ ⟨⟩)
          -∗ wp frame (wpE (defs₀ (F := F)) 𝒱₀ (tile d L) none) Set.univ (gWait L p) Φ) := by
  unfold gFly OW
  iintro ⟨⟨%fd, %g, %hg, Hfl, Hrest⟩, #Hmw, %W', %hW', HO⟩ Hk
  unfold gWait SparseCore.waitIndirectGather
  iapply (Transfers.wp_waitLocalO (defs := defs₀ (F := F)) countersEmb 𝒱₀ (tile d L) none (default : HIx 1) (rfl : (rb p).view.dmaCredit = _)) $$ [Hfl HO]
  · isplitl [Hfl]; · iexact Hfl
    isplitl [HO]; · iexact HO
    iapply (Transfers.MayWaits.elim (SemLoc.dma (gs p).sem)) $$ Hmw
  iintro ⟨⟨Hr, Ht, Hi⟩, Hs, HO⟩
  rw [wp_ret]
  imodintro
  ihave Hi := (pointsTo_split_subset (q := qp fullShare p) (ℓ := (iB).view.loc (tile d L)) (f := idxC m d b) (I := (iW k).view.set) (View.set_slice_subset (iB).view (Rect.unit (s := S2560) ![160 * k.val] S160.size (inb_win k)))).2 $$ [Hi Hrest]
  · isplitl [Hi] <;> iassumption
  iapply Hk $$ [Hr] [Ht Hi Hs] [HO]
  · unfold rPts
    iexists _; isplitl [Hr]; · iexact Hr
    ipureintro
    rw [View.read_write_univ]; exact hg
  · unfold gIdle
    isplitl [Ht]; · iexact Ht
    isplitl [Hi]; · iexact Hi
    iexact Hs
  · isplitl []; · iexact Hmw
    iexists _; isplitr
    swap; · iexact HO
    ipureintro
    intro x hx
    rcases Finset.mem_insert.mp hx with hx | hx
    · exact .inr (hx ▸ rfl)
    · exact hW' x hx

end Cert.EdgeProof

end
-- ==== Proof.EdgeRows.lean ====
/-
  Rows of a buffer, of whatever kind: consecutive rows held together are those held apart, tile by tile.
-/
module

public import proofs.«01_k».proof.Proof.EdgeBase

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {ℓ : Loc nD τ sig} (φ : Idx ℓ → ℕ)

/-- The elements whose row, as `φ` numbers it, is among the `c` from `n` on. -/
def rowsOf (n c : ℕ) : Finset (Idx ℓ) := Finset.univ.filter fun x => n ≤ φ x ∧ φ x < n + c

theorem mem_rowsOf {n c : ℕ} {x : Idx ℓ} : x ∈ rowsOf φ n c ↔ n ≤ φ x ∧ φ x < n + c := by simp [rowsOf]

abbrev rowPts (n c : ℕ) (f : Buf (Elt F) ℓ) : sProp 𝕄 := ℓ ↦[rowsOf φ n c]{fullShare} f

theorem rowPts_add (n c c' : ℕ) (f : Buf (Elt F) ℓ) :
    (rowPts φ n (c + c') f : sProp 𝕄) ⊣⊢ iprop(rowPts φ n c f ∗ rowPts φ (n + c) c' f) := by
  have h : rowsOf φ n (c + c') = rowsOf φ n c ∪ rowsOf φ (n + c) c' := by
    ext x; simp only [Finset.mem_union, mem_rowsOf]; omega
  have hd : Disjoint (rowsOf φ n c) (rowsOf φ (n + c) c') :=
    Finset.disjoint_left.mpr fun x h1 h2 => by rw [mem_rowsOf] at h1 h2; omega
  unfold rowPts
  rw [h]
  exact pointsTo_union hd

theorem rowPts_tiles (b c n : ℕ) (f : Buf (Elt F) ℓ) :
    (rowPts φ b (c * n) f : sProp 𝕄) = bigSep Finset.univ fun i : Fin n => rowPts φ (b + c * i.val) c f := by
  have hd : ∀ i ∈ (Finset.univ : Finset (Fin n)), ∀ j ∈ (Finset.univ : Finset (Fin n)), i ≠ j →
      Disjoint (rowsOf φ (b + c * i.val) c) (rowsOf φ (b + c * j.val) c) := by
    intro i _ j _ hij
    refine Finset.disjoint_left.mpr fun x h1 h2 => ?_
    rw [mem_rowsOf] at h1 h2
    rcases Nat.lt_or_gt_of_ne (fun e => hij (Fin.ext e)) with h | h
    · have := Nat.mul_le_mul_left c h; rw [Nat.mul_succ] at this; omega
    · have := Nat.mul_le_mul_left c h; rw [Nat.mul_succ] at this; omega
  unfold rowPts
  rw [← pointsTo_biUnion Finset.univ (ℓ := ℓ) (fun i : Fin n => rowsOf φ (b + c * i.val) c) hd]
  congr 1
  ext x
  simp only [Finset.mem_biUnion, Finset.mem_univ, true_and, mem_rowsOf]
  constructor
  · rintro ⟨h1, h2⟩
    have hc : 0 < c := Nat.pos_of_ne_zero fun e => by subst e; omega
    have hlt : (φ x - b) / c < n := Nat.div_lt_of_lt_mul (by omega)
    refine ⟨⟨(φ x - b) / c, hlt⟩, ?_⟩
    have h3 := Nat.div_add_mod (φ x - b) c
    have h4 := Nat.mod_lt (φ x - b) hc
    show b + c * ((φ x - b) / c) ≤ φ x ∧ φ x < b + c * ((φ x - b) / c) + c
    omega
  · rintro ⟨i, h1, h2⟩
    have := Nat.mul_le_mul_left c i.isLt
    rw [Nat.mul_succ] at this
    omega

/-- Tile `i`'s rows of the ten thousand from `b` on: 624, and on the last tile the sixteen left over. -/
def endPts (b : ℕ) (i : Fin 16) (f : Buf (Elt F) ℓ) : sProp 𝕄 :=
  iprop(rowPts φ (b + 624 * i.val) 624 f ∗ if i = 15 then rowPts φ (b + 9984) 16 f else iprop(emp))

theorem endPts_all (b : ℕ) (f : Buf (Elt F) ℓ) :
    (rowPts φ b 10000 f : sProp 𝕄) = bigSep Finset.univ fun i : Fin 16 => endPts φ b i f := by
  have h := rowPts_add (F := F) φ b (624 * 16) 16 f
  have hl : (bigSep Finset.univ fun i : Fin 16 => if i = 15 then (rowPts φ (b + 9984) 16 f : sProp 𝕄) else iprop(emp)) = rowPts φ (b + 9984) 16 f :=
    (bigSep_filter Finset.univ (fun i : Fin 16 => i = 15) (fun _ => (rowPts φ (b + 9984) 16 f : sProp 𝕄))).symm.trans (by
      rw [Finset.filter_eq' Finset.univ (15 : Fin 16), if_pos (Finset.mem_univ _), bigSep_singleton])
  unfold endPts
  rw [bigSep_sep', ← rowPts_tiles, hl]
  exact BI.Entails.antisymm h.1 h.2

end Cert.EdgeProof

end
-- ==== Proof.EdgeStore.lean ====
/-
  The stores of `Edge`: a scaled row buffer goes to the result in two halves, both outstanding on one semaphore, and
  both are waited for before the buffer is used again.
-/
module

public import proofs.«01_k».proof.Proof.EdgeDma
public import proofs.«01_k».proof.Proof.EdgeRows

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## Rows of the result -/

/-- Rows `n` to `n + c` of the result. -/
def rowSet (n c : ℕ) : Finset S327680x128.Idx := Finset.univ.filter fun x => n ≤ (x 0).val ∧ (x 0).val < n + c

omit [FloatOps F] in
theorem mem_rowSet {n c : ℕ} {x : S327680x128.Idx} : x ∈ rowSet n c ↔ n ≤ (x 0).val ∧ (x 0).val < n + c := by
  simp [rowSet]

abbrev oPts (n c : ℕ) (f : Buf (Elt F) (oLoc d)) : sProp 𝕄 := oLoc d ↦[rowSet n c]{fullShare} f

omit [FloatOps F] in
theorem oPts_add (n c c' : ℕ) (f : Buf (Elt F) (oLoc d)) :
    (oPts d n (c + c') f : sProp 𝕄) ⊣⊢ iprop(oPts d n c f ∗ oPts d (n + c) c' f) :=
  rowPts_add (fun x : Idx (oLoc d) => ((x : S327680x128.Idx) 0).val) n c c' f

omit [FloatOps F] in
theorem set_oW {off : Fin 2 → ℕ} {inb : ∀ a, off a + S80x128.size a ≤ S327680x128.size a} {n : ℕ} (hoff : off = ![n, 0]) :
    ((oV).slice (Rect.unit (s := S327680x128) off S80x128.size inb) (fun _ => rfl)).view.set = rowSet n 80 := by
  subst hoff
  show ((View.whole (main_v0_0_scv : Ref sig .scVector)).slice (Rect.unit (s := S327680x128) ![n, 0] S80x128.size inb)).set = _
  rw [View.set_slice]
  refine (Finset.map_refl (s := (Rect.unit (s := S327680x128) ![n, 0] S80x128.size inb).set)).trans ?_
  ext x
  rw [Rect.mem_set_unit, mem_rowSet]
  have h1 : (x 1).val < 128 := (x 1).isLt
  constructor
  · intro h; exact h 0
  · intro h a
    match a with
    | 0 => exact h
    | 1 => exact ⟨Nat.zero_le _, show (x 1).val < 0 + 128 by omega⟩

theorem store_val {off : Fin 2 → ℕ} {inb : ∀ a, off a + S80x128.size a ≤ S327680x128.size a} {n : ℕ} (hoff : off = ![n, 0])
    (fd : Buf (Elt F) (oLoc d)) (w : S80x128.Idx → Elt F .f32) (hw : ∀ x, w x = mv m d (n + (x 0).val) (x 1).val) :
    ∀ y ∈ rowSet n 80, ((oV).slice (Rect.unit (s := S327680x128) off S80x128.size inb) (fun _ => rfl)).view.write (Elt F) fd w Finset.univ y
      = msg m d y := by
  intro y hy
  subst hoff
  rw [mem_rowSet] at hy
  have h1 : (y 1).val < 128 := (y 1).isLt
  have hx : ((oV).slice (Rect.unit (s := S327680x128) ![n, 0] S80x128.size inb) (fun _ => rfl)).view.emb
      (ValueIdx.ix2 (n0 := 80) (n1 := 128) ⟨(y 0).val - n, by omega⟩ (y 1) : S80x128.Idx) = y := by
    funext a
    refine Fin.ext ?_
    match a with
    | 0 => show n + 1 * ((y 0).val - n) = (y 0).val; omega
    | 1 => show 0 + 1 * (y 1).val = (y 1).val; omega
  have hwr := View.write_emb_of_mem (Val := Elt F) (v := ((oV).slice (Rect.unit (s := S327680x128) ![n, 0] S80x128.size inb) (fun _ => rfl)).view)
    fd w (Finset.mem_univ (ValueIdx.ix2 (n0 := 80) (n1 := 128) ⟨(y 0).val - n, by omega⟩ (y 1) : S80x128.Idx))
  rw [hx] at hwr
  refine hwr.trans ((cast_eq _ _).trans ((hw _).trans ?_))
  show mv m d (n + ((y 0).val - n)) (y 1).val = mv m d (y 0).val (y 1).val
  rw [Nat.add_sub_cancel' hy.1]

/-! ## Halves of a row buffer -/

abbrev halfR (h : Fin 2) : Rect S160x128 := Rect.unit (s := S160x128) ![80 * h.val, 0] S80x128.size (inb_half h)

omit [FloatOps F] in
theorem set_rH (p : Bool) (h : Fin 2) : (rH p h).view.set = (halfR h).set.map (rb p).view.emb := View.set_slice (rb p).view (halfR h)

omit [FloatOps F] in
theorem rH_union (p : Bool) : (rb p).view.set = (rH p 0).view.set ∪ (rH p 1).view.set := by
  rw [set_rH, set_rH, ← Finset.map_union]
  refine congrArg (Finset.map _) (Finset.ext fun x => ?_)
  have h0 : (x 0).val < 160 := (x 0).isLt
  have h1 : (x 1).val < 128 := (x 1).isLt
  simp only [Finset.mem_univ, true_iff, Finset.mem_union, Rect.mem_set_unit]
  by_cases h : (x 0).val < 80
  · left; intro a
    match a with
    | 0 => exact ⟨Nat.zero_le _, show (x 0).val < 80 * 0 + 80 by omega⟩
    | 1 => exact ⟨Nat.zero_le _, show (x 1).val < 0 + 128 by omega⟩
  · right; intro a
    match a with
    | 0 => exact ⟨show 80 * 1 ≤ (x 0).val by omega, show (x 0).val < 80 * 1 + 80 by omega⟩
    | 1 => exact ⟨Nat.zero_le _, show (x 1).val < 0 + 128 by omega⟩

omit [FloatOps F] in
theorem rH_disjoint (p : Bool) : Disjoint (rH p 0).view.set (rH p 1).view.set := by
  rw [set_rH, set_rH]
  refine (Finset.disjoint_map _).mpr (Finset.disjoint_left.mpr fun x h0 h1 => ?_)
  rw [Rect.mem_set_unit] at h0 h1
  have := (h0 0).2
  have := (h1 0).1
  simp at *
  omega

/-! ## The stores -/

/-- What a half's store credits its semaphore. -/
abbrev sN : ℕ := (main_v0_0_scv : Ref sig .scVector).dmaCredit S80x128 .f32

/-- What the store of half `h` delivers: its rows of the result, and the half of the buffer back. -/
def sD (n : ℕ) (p : Bool) (h : Fin 2) : sProp 𝕄 :=
  iprop(oPts d (n + 80 * h.val) 80 (msg m d) ∗ ∃ f, (rb p).view.loc (tile d L) ↦[(rH p h).view.set]{fullShare} f)

instance sD_storable (n : ℕ) (p : Bool) (h : Fin 2) : BI.Storable (upEmb : UEmb _ 𝕄) (sD m d L n p h) := by
  unfold sD; infer_instance

/-- The stores of a row buffer holding rows `n` to `n + 160`: both issued, `u` units waited for. -/
abbrev sFly (n : ℕ) (p : Bool) (u : ℕ) : sProp 𝕄 :=
  Transfers.Batch countersEmb (tile d L) (.dma (ss p).sem) (default : HIx 1) sN (sD m d L n p) 2 u
/-- The first half's store issued, the second half still in hand. -/
def sHalf (n : ℕ) (p : Bool) : sProp 𝕄 :=
  iprop(Transfers.Batch countersEmb (tile d L) (.dma (ss p).sem) (default : HIx 1) sN (sD m d L n p) 1 0
    ∗ ∃ f, ((rb p).view.loc (tile d L) ↦[(rH p 1).view.set]{fullShare} f) ∗ ⌜(rb p).view.read (Elt F) f = part m d n 160 0⌝)

theorem sD_of (t : Fin k0_t1_loop.trips) (p : Bool) (k : Fin 16) (h : Fin 2) {n : ℕ} (hoff : oOff L t k h = ![n + 80 * h.val, 0])
    (fd : Buf (Elt F) (oLoc d)) (f : Buf (Elt F) ((rb p).view.loc (tile d L))) (hf : (rb p).view.read (Elt F) f = part m d n 160 0) :
    iprop(((oW L t k h).view.loc (tile d L) ↦[rowSet (n + 80 * h.val) 80]{fullShare}
          ((oW L t k h).view.write (Elt F) fd ((rH p h).view.read (Elt F) f) Finset.univ))
        ∗ ((rH p h).view.loc (tile d L) ↦[(rH p h).view.set]{fullShare} f)) ⊢ sD m d L n p h := by
  unfold sD
  iintro ⟨Ho, Hr⟩
  isplitl [Ho]
  · iapply (Entails.of_eq (pointsTo_congr (ℓ := oLoc d) (q := fullShare) (store_val m d hoff fd ((rH p h).view.read (Elt F) f) (fun x => by
      refine (congrFun hf _).trans ?_
      rw [part_all]
      show mv m d (n + (80 * h.val + 1 * (x 0).val)) (0 + 1 * (x 1).val) = _
      congr 1 <;> omega)))) $$ Ho
  · iexists f; iexact Hr

theorem wp_sIssueH (t : Fin k0_t1_loop.trips) (p : Bool) (k : Fin 16) (h : Fin 2) {n : ℕ} (hoff : oOff L t k h = ![n + 80 * h.val, 0])
    (f : Buf (Elt F) ((rb p).view.loc (tile d L))) (hf : (rb p).view.read (Elt F) f = part m d n 160 0) {Φ : PUnit → sProp 𝕄} :
    iprop(((rb p).view.loc (tile d L) ↦[(rH p h).view.set]{fullShare} f) ∗ oPts d (n + 80 * h.val) 80 (m (oLoc d))
        ∗ Transfers.Batch countersEmb (tile d L) (.dma (ss p).sem) (default : HIx 1) sN (sD m d L n p) h.val 0)
      ⊢ iprop((Transfers.Batch countersEmb (tile d L) (.dma (ss p).sem) (default : HIx 1) sN (sD m d L n p) (h.val + 1) 0 -∗ Φ ⟨⟩)
          -∗ wp frame (wpE (defs₀ (F := F)) 𝒱₀ (tile d L) none) Set.univ (sIssue L t p k h) Φ) := by
  unfold sIssue
  iintro ⟨Hr, Ho, HB⟩ Hk
  iapply (Transfers.wp_dmaBatch (defs := defs₀ (F := F)) countersEmb 𝒱₀ (tile d L) none (src := rH p h) (dst := oW L t k h) (via := .same) (sm := .dma (ss p).sem)
    (n := 2) (q := fullShare) (fs := f) (fd := m (oLoc d)) (Sd := rowSet (n + 80 * h.val) 80) (D := sD m d L n p) (j := h.val) (u := 0) (k := Prog.ret)
    (default : HIx 1) sN rfl (set_oW hoff).le h.isLt (Nat.zero_le _) (sD_of m d L t p k h hoff _ f hf)) $$ [Hr Ho HB]
  · isplitl [Hr]; · iexact Hr
    isplitl [Ho]; · iexact Ho
    iexact HB
  iintro HB
  rw [wp_ret]
  imodintro
  iapply Hk $$ HB

theorem wp_sIssue0 (t : Fin k0_t1_loop.trips) (p : Bool) (k : Fin 16) {n : ℕ} (hoff : oOff L t k 0 = ![n, 0]) {Φ : PUnit → sProp 𝕄} :
    iprop(rPts d L (rb p) (part m d n 160 0) ∗ oPts d n 80 (m (oLoc d)) ∗ semVal (tile d L, SemLoc.dma (ss p).sem) 0)
      ⊢ iprop((sHalf m d L n p -∗ Φ ⟨⟩)
          -∗ wp frame (wpE (defs₀ (F := F)) 𝒱₀ (tile d L) none) Set.univ (sIssue L t p k 0) Φ) := by
  unfold rPts
  iintro ⟨⟨%f, Hr, %hf⟩, Ho, Hs⟩ Hk
  rw [rH_union p]
  ihave Hr := (pointsTo_union (rH_disjoint p)).1 $$ Hr
  icases Hr with ⟨Hr0, Hr1⟩
  rw [← fupd_wp_eq]
  imod (Transfers.batch_alloc' countersEmb (tile d L) (default : HIx 1) sN (sD m d L n p)) $$ Hs with HB
  imodintro
  iapply (wp_sIssueH m d L t p k 0 (n := n) hoff f hf) $$ [Hr0 Ho HB]
  · isplitl [Hr0]; · iexact Hr0
    isplitl [Ho]; · iexact Ho
    iexact HB
  iintro HB
  iapply Hk
  unfold sHalf
  isplitl [HB]; · iexact HB
  iexists f; isplitl [Hr1]; · iexact Hr1
  ipureintro; exact hf

theorem wp_sIssue1 (t : Fin k0_t1_loop.trips) (p : Bool) (k : Fin 16) {n : ℕ} (hoff : oOff L t k 1 = ![n + 80, 0]) {Φ : PUnit → sProp 𝕄} :
    iprop(sHalf m d L n p ∗ oPts d (n + 80) 80 (m (oLoc d)))
      ⊢ iprop((sFly m d L n p 0 -∗ Φ ⟨⟩)
          -∗ wp frame (wpE (defs₀ (F := F)) 𝒱₀ (tile d L) none) Set.univ (sIssue L t p k 1) Φ) := by
  unfold sHalf
  iintro ⟨⟨HB, %f, Hr1, %hf⟩, Ho⟩ Hk
  iapply (wp_sIssueH m d L t p k 1 (n := n) hoff f hf) $$ [Hr1 Ho HB]
  · isplitl [Hr1]; · iexact Hr1
    isplitl [Ho]; · iexact Ho
    iexact HB
  iintro HB
  iapply Hk
  iexact HB

theorem OW_insert {O : CellTallies nD τ sig (HIx 1)} {W W' : Waits sig (HIx 1)} (sm : SemLoc sig) (hW' : ∀ p ∈ W', p ∈ W ∨ p.2 = none) :
    iprop(Transfers.MayWaits (tile d L) (default : HIx 1) O ∗ owes (tile d L) O (insert (sm, (default : HIx 1)) W'))
      ⊢ (OW d L O W : sProp 𝕄) := by
  unfold OW
  iintro ⟨Hmw, HO⟩
  isplitl [Hmw]; · iexact Hmw
  iexists _; isplitr
  swap; · iexact HO
  ipureintro
  intro x hx
  rcases Finset.mem_insert.mp hx with hx | hx
  · exact .inr (hx ▸ rfl)
  · exact hW' x hx

theorem OW_open {O : CellTallies nD τ sig (HIx 1)} {W : Waits sig (HIx 1)} :
    (OW d L O W : sProp 𝕄) ⊢ iprop(Transfers.MayWaits (tile d L) (default : HIx 1) O
      ∗ ∃ W', ⌜∀ p ∈ W', p ∈ W ∨ p.2 = none⌝ ∗ owes (tile d L) O W') := by
  unfold OW; exact .rfl

theorem sD_join (n : ℕ) (p : Bool) :
    iprop(sD m d L n p 0 ∗ sD m d L n p 1) ⊢ iprop((∃ g, rPts d L (rb p) g) ∗ oPts d n 160 (msg m d)) := by
  unfold sD
  iintro ⟨⟨Ho0, %f0, Hr0⟩, Ho1, %f1, Hr1⟩
  isplitl [Hr0 Hr1]
  · iexists _
    unfold rPts
    iexists _
    isplitl
    · rw [rH_union p]
      iapply (pointsTo_join (rH_disjoint p))
      isplitl [Hr0]; · iexact Hr0
      iexact Hr1
    · ipureintro; rfl
  · iapply (oPts_add d n 80 80 (msg m d)).2
    isplitl [Ho0]; · iexact Ho0
    iexact Ho1

theorem sD_all (n : ℕ) (p : Bool) :
    bigSep Finset.univ (sD m d L n p) ⊢ iprop((∃ g, rPts d L (rb p) g) ∗ oPts d n 160 (msg m d)) := by
  rw [Transfers.bigSep_pending_zero, Transfers.bigSep_pending_step _ 0 (by decide), Transfers.bigSep_pending_last _ 1 (by decide) rfl]
  exact sD_join m d L n p

theorem wp_sWait0 (t : Fin k0_t1_loop.trips) (p : Bool) (k : Fin 16) (h : Fin 2) {n : ℕ} {O : CellTallies nD τ sig (HIx 1)} {W : Waits sig (HIx 1)}
    {Φ : PUnit → sProp 𝕄} :
    iprop(sFly m d L n p 0 ∗ OW d L O W)
      ⊢ iprop((sFly m d L n p (0 + sN) -∗ OW d L O W -∗ Φ ⟨⟩)
          -∗ wp frame (wpE (defs₀ (F := F)) 𝒱₀ (tile d L) none) Set.univ (sWait L t p k h) Φ) := by
  unfold sWait
  iintro ⟨HB, HOW⟩ Hk
  ihave HOW := (OW_open d L) $$ HOW
  icases HOW with ⟨#Hmw, %W', %hW', HO⟩
  iapply (Transfers.wp_waitBatchO (defs := defs₀ (F := F)) countersEmb 𝒱₀ (tile d L) none (default : HIx 1) (N := sN) rfl (D := sD m d L n p) (u := 0)
    (by decide) (k := Prog.ret)) $$ [HB HO]
  · isplitl [HB]; · iexact HB
    isplitl [HO]; · iexact HO
    iapply (Transfers.MayWaits.elim (SemLoc.dma (ss p).sem)) $$ Hmw
  iintro ⟨HB, HO⟩
  rw [wp_ret]
  imodintro
  iapply Hk $$ HB
  iapply (OW_insert d L (SemLoc.dma (ss p).sem) hW')
  isplitl []; · iexact Hmw
  iexact HO

theorem wp_sWait1 (t : Fin k0_t1_loop.trips) (p : Bool) (k : Fin 16) (h : Fin 2) {n : ℕ} {O : CellTallies nD τ sig (HIx 1)} {W : Waits sig (HIx 1)}
    {Φ : PUnit → sProp 𝕄} :
    iprop(sFly m d L n p (0 + sN) ∗ OW d L O W)
      ⊢ iprop(((∃ g, rPts d L (rb p) g) -∗ oPts d n 160 (msg m d) -∗ semVal (tile d L, SemLoc.dma (ss p).sem) 0 -∗ OW d L O W -∗ Φ ⟨⟩)
          -∗ wp frame (wpE (defs₀ (F := F)) 𝒱₀ (tile d L) none) Set.univ (sWait L t p k h) Φ) := by
  unfold sWait
  iintro ⟨HB, HOW⟩ Hk
  ihave HOW := (OW_open d L) $$ HOW
  icases HOW with ⟨#Hmw, %W', %hW', HO⟩
  iapply (Transfers.wp_waitBatchLastO (defs := defs₀ (F := F)) countersEmb 𝒱₀ (tile d L) none (default : HIx 1) (N := sN) rfl (by decide) (D := sD m d L n p) (u := 0 + sN)
    (by decide) (k := Prog.ret)) $$ [HB HO]
  · isplitl [HB]; · iexact HB
    isplitl [HO]; · iexact HO
    iapply (Transfers.MayWaits.elim (SemLoc.dma (ss p).sem)) $$ Hmw
  iintro ⟨HD, Hs, HO⟩
  ihave HD := (sD_all m d L n p) $$ HD
  rw [wp_ret]
  imodintro
  icases HD with ⟨Hr, Ho⟩
  iapply Hk $$ Hr Ho Hs
  iapply (OW_insert d L (SemLoc.dma (ss p).sem) hW')
  isplitl []; · iexact Hmw
  iexact HO

end Cert.EdgeProof

end
-- ==== Proof.EdgeLoad.lean ====
/-
  The loads of `Edge`: a chunk's row numbers and factors come in by two copies outstanding on one semaphore, its
  destination rows by one on a semaphore of their own.
-/
module

public import proofs.«01_k».proof.Proof.EdgeStore

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- What a list's load credits its semaphore. -/
abbrev lN : ℕ := (iB).view.dmaCredit

/-- What each load delivers: its list, and the part of the argument it read back. -/
def lD (q : PosShare TreeShare) (t : Fin k0_t1_loop.trips) (b : ℕ) : Fin 2 → sProp 𝕄
  | 0 => iprop(((iB).view.loc (tile d L) ↦[Finset.univ]{fullShare} idxC m d b) ∗ (fC L t).view.loc (tile d L) ↦[(fC L t).view.set]{q} m (fLoc d))
  | 1 => iprop(vPts m d L b ∗ (nC L t).view.loc (tile d L) ↦[(nC L t).view.set]{q} m (nLoc d))

instance lD_storable (q : PosShare TreeShare) (t : Fin k0_t1_loop.trips) (b : ℕ) (h : Fin 2) :
    BI.Storable (upEmb : UEmb _ 𝕄) (lD m d L q t b h) := by
  match h with
  | 0 => unfold lD; infer_instance
  | 1 => unfold lD; infer_instance

theorem load_index {off : Fin 1 → ℕ} {inb : ∀ a, off a + S2560.size a ≤ S327680.size a} {b : ℕ} (hoff : off = ![b]) (x : S2560.Idx) :
    ((Rect.unit (s := S327680) off S2560.size inb).emb x : S327680.Idx)
      = ValueIdx.ix1 (n := 327680) ⟨(b + (x 0).val) % 327680, Nat.mod_lt _ (by decide)⟩ := by
  subst hoff
  have h : b + 2560 ≤ 327680 := inb 0
  have hx : (x 0).val < 2560 := (x 0).isLt
  funext a
  refine Fin.ext ?_
  match a with
  | 0 =>
    show b + 1 * (x 0).val = (b + (x 0).val) % 327680
    rw [Nat.mod_eq_of_lt (by omega), Nat.one_mul]

theorem lD_of0 (q : PosShare TreeShare) (t : Fin k0_t1_loop.trips) {b : ℕ} (hb : k0_off2 L t = ![b]) (fd : Buf (Elt F) ((iB).view.loc (tile d L))) :
    iprop(((iB).view.loc (tile d L) ↦[Finset.univ]{fullShare} ((iB).view.write (Elt F) fd ((fC L t).view.read (Elt F) (m (fLoc d))) Finset.univ))
        ∗ ((fC L t).view.loc (tile d L) ↦[(fC L t).view.set]{q} m (fLoc d))) ⊢ lD m d L q t b 0 := by
  show _ ⊢ iprop(((iB).view.loc (tile d L) ↦[Finset.univ]{fullShare} idxC m d b) ∗ (fC L t).view.loc (tile d L) ↦[(fC L t).view.set]{q} m (fLoc d))
  refine Entails.of_eq (congrArg (fun P : sProp 𝕄 => iprop(P ∗ _)) (pointsTo_congr fun y _ => ?_))
  refine (View.write_emb_of_mem (Val := Elt F) (v := (iB).view) fd _ (Finset.mem_univ y)).trans ((cast_eq _ _).trans ?_)
  exact congrArg (m (fLoc d)) (load_index hb y)

theorem lD_of1 (q : PosShare TreeShare) (t : Fin k0_t1_loop.trips) {b : ℕ} (hb : k0_off2 L t = ![b]) (fd : Buf (Elt F) ((vB).view.loc (tile d L))) :
    iprop(((vB).view.loc (tile d L) ↦[Finset.univ]{fullShare} ((vB).view.write (Elt F) fd ((nC L t).view.read (Elt F) (m (nLoc d))) Finset.univ))
        ∗ ((nC L t).view.loc (tile d L) ↦[(nC L t).view.set]{q} m (nLoc d))) ⊢ lD m d L q t b 1 := by
  show _ ⊢ iprop(((vB).view.loc (tile d L) ↦[Finset.univ]{fullShare} invC m d b) ∗ (nC L t).view.loc (tile d L) ↦[(nC L t).view.set]{q} m (nLoc d))
  refine Entails.of_eq (congrArg (fun P : sProp 𝕄 => iprop(P ∗ _)) (pointsTo_congr fun y _ => ?_))
  refine (View.write_emb_of_mem (Val := Elt F) (v := (vB).view) fd _ (Finset.mem_univ y)).trans ((cast_eq _ _).trans ?_)
  exact congrArg (m (nLoc d)) (load_index hb y)

theorem lD_all (q : PosShare TreeShare) (t : Fin k0_t1_loop.trips) (b : ℕ) :
    bigSep Finset.univ (lD m d L q t b) ⊢ iprop((((iB).view.loc (tile d L) ↦[Finset.univ]{fullShare} idxC m d b)
        ∗ (fC L t).view.loc (tile d L) ↦[(fC L t).view.set]{q} m (fLoc d))
      ∗ (vPts m d L b ∗ (nC L t).view.loc (tile d L) ↦[(nC L t).view.set]{q} m (nLoc d))) := by
  rw [Transfers.bigSep_pending_zero, Transfers.bigSep_pending_step _ 0 (by decide), Transfers.bigSep_pending_last _ 1 (by decide) rfl]
  exact .rfl

/-- The two loads: `j` issued, `u` units waited for. -/
abbrev lFly (q : PosShare TreeShare) (t : Fin k0_t1_loop.trips) (b j u : ℕ) : sProp 𝕄 :=
  Transfers.Batch countersEmb (tile d L) (.dma cc0_scratch10.sem) (default : HIx 1) lN (lD m d L q t b) j u

theorem wp_loadF (q : PosShare TreeShare) (t : Fin k0_t1_loop.trips) {b : ℕ} (hb : k0_off2 L t = ![b]) (fi : Buf (Elt F) ((iB).view.loc (tile d L)))
    {Φ : PUnit → sProp 𝕄} :
    iprop(((fC L t).view.loc (tile d L) ↦[(fC L t).view.set]{q} m (fLoc d)) ∗ ((iB).view.loc (tile d L) ↦[Finset.univ]{fullShare} fi)
        ∗ lFly m d L q t b 0 0)
      ⊢ iprop((lFly m d L q t b 1 0 -∗ Φ ⟨⟩) -∗ wp frame (wpE (defs₀ (F := F)) 𝒱₀ (tile d L) none) Set.univ (loadF L t) Φ) := by
  unfold loadF
  iintro ⟨Hf, Hi, HB⟩ Hk
  iapply (Transfers.wp_dmaBatch (defs := defs₀ (F := F)) countersEmb 𝒱₀ (tile d L) none (src := fC L t) (dst := iB) (via := .same)
    (sm := .dma cc0_scratch10.sem) (n := 2) (q := q) (fs := m (fLoc d)) (fd := fi) (Sd := Finset.univ) (D := lD m d L q t b) (j := 0) (u := 0) (k := Prog.ret)
    (default : HIx 1) lN rfl (Finset.subset_univ _) (by decide) (Nat.zero_le _) (lD_of0 m d L q t hb fi)) $$ [Hf Hi HB]
  · isplitl [Hf]; · iexact Hf
    isplitl [Hi]; · iexact Hi
    iexact HB
  iintro HB
  rw [wp_ret]
  imodintro
  iapply Hk $$ HB

theorem wp_loadN (q : PosShare TreeShare) (t : Fin k0_t1_loop.trips) {b : ℕ} (hb : k0_off2 L t = ![b]) (fv : Buf (Elt F) ((vB).view.loc (tile d L)))
    {Φ : PUnit → sProp 𝕄} :
    iprop(((nC L t).view.loc (tile d L) ↦[(nC L t).view.set]{q} m (nLoc d)) ∗ ((vB).view.loc (tile d L) ↦[Finset.univ]{fullShare} fv)
        ∗ lFly m d L q t b 1 0)
      ⊢ iprop((lFly m d L q t b 2 0 -∗ Φ ⟨⟩) -∗ wp frame (wpE (defs₀ (F := F)) 𝒱₀ (tile d L) none) Set.univ (loadN L t) Φ) := by
  unfold loadN
  iintro ⟨Hn, Hv, HB⟩ Hk
  iapply (Transfers.wp_dmaBatch (defs := defs₀ (F := F)) countersEmb 𝒱₀ (tile d L) none (src := nC L t) (dst := vB) (via := .same)
    (sm := .dma cc0_scratch10.sem) (n := 2) (q := q) (fs := m (nLoc d)) (fd := fv) (Sd := Finset.univ) (D := lD m d L q t b) (j := 1) (u := 0) (k := Prog.ret)
    (default : HIx 1) lN rfl (Finset.subset_univ _) (by decide) (Nat.zero_le _) (lD_of1 m d L q t hb fv)) $$ [Hn Hv HB]
  · isplitl [Hn]; · iexact Hn
    isplitl [Hv]; · iexact Hv
    iexact HB
  iintro HB
  rw [wp_ret]
  imodintro
  iapply Hk $$ HB

theorem wp_waitF (q : PosShare TreeShare) (t : Fin k0_t1_loop.trips) (b : ℕ) {O : CellTallies nD τ sig (HIx 1)} {W : Waits sig (HIx 1)}
    {Φ : PUnit → sProp 𝕄} :
    iprop(lFly m d L q t b 2 0 ∗ OW d L O W)
      ⊢ iprop((lFly m d L q t b 2 (0 + lN) -∗ OW d L O W -∗ Φ ⟨⟩)
          -∗ wp frame (wpE (defs₀ (F := F)) 𝒱₀ (tile d L) none) Set.univ (waitF L t) Φ) := by
  unfold waitF
  iintro ⟨HB, HOW⟩ Hk
  ihave HOW := (OW_open d L) $$ HOW
  icases HOW with ⟨#Hmw, %W', %hW', HO⟩
  iapply (Transfers.wp_waitBatchO (defs := defs₀ (F := F)) countersEmb 𝒱₀ (tile d L) none (default : HIx 1) (N := lN) rfl (D := lD m d L q t b) (u := 0)
    (by decide) (k := Prog.ret)) $$ [HB HO]
  · isplitl [HB]; · iexact HB
    isplitl [HO]; · iexact HO
    iapply (Transfers.MayWaits.elim (SemLoc.dma cc0_scratch10.sem)) $$ Hmw
  iintro ⟨HB, HO⟩
  rw [wp_ret]
  imodintro
  iapply Hk $$ HB
  iapply (OW_insert d L (SemLoc.dma cc0_scratch10.sem) hW')
  isplitl []; · iexact Hmw
  iexact HO

theorem lN_pos : 0 < lN := by decide
theorem vN_eq : (vB).view.dmaCredit = lN := by decide

theorem wp_waitN (q : PosShare TreeShare) (t : Fin k0_t1_loop.trips) (b : ℕ) {O : CellTallies nD τ sig (HIx 1)} {W : Waits sig (HIx 1)}
    {Φ : PUnit → sProp 𝕄} :
    iprop(lFly m d L q t b 2 (0 + lN) ∗ OW d L O W)
      ⊢ iprop((bigSep Finset.univ (lD m d L q t b) -∗ semVal (tile d L, SemLoc.dma cc0_scratch10.sem) 0 -∗ OW d L O W -∗ Φ ⟨⟩)
          -∗ wp frame (wpE (defs₀ (F := F)) 𝒱₀ (tile d L) none) Set.univ (waitN L t) Φ) := by
  unfold waitN
  iintro ⟨HB, HOW⟩ Hk
  ihave HOW := (OW_open d L) $$ HOW
  icases HOW with ⟨#Hmw, %W', %hW', HO⟩
  iapply (Transfers.wp_waitBatchLastO (defs := defs₀ (F := F)) countersEmb 𝒱₀ (tile d L) none (default : HIx 1) (N := lN) vN_eq lN_pos (D := lD m d L q t b)
    (u := 0 + lN) (by rw [Nat.zero_add, Nat.mul_two]) (k := Prog.ret)) $$ [HB HO]
  · isplitl [HB]; · iexact HB
    isplitl [HO]; · iexact HO
    iapply (Transfers.MayWaits.elim (SemLoc.dma cc0_scratch10.sem)) $$ Hmw
  iintro ⟨HD, Hs, HO⟩
  rw [wp_ret]
  imodintro
  iapply Hk $$ HD Hs
  iapply (OW_insert d L (SemLoc.dma cc0_scratch10.sem) hW')
  isplitl []; · iexact Hmw
  iexact HO

/-- The two lists, in a tile's hands with whatever they held. -/
def lists : sProp 𝕄 :=
  iprop((∃ f, (iB).view.loc (tile d L) ↦[Finset.univ]{fullShare} f) ∗ ∃ f, (vB).view.loc (tile d L) ↦[Finset.univ]{fullShare} f)

/-- The two list arguments, at a share. -/
def argPts (q : PosShare TreeShare) : sProp 𝕄 :=
  iprop((fLoc d ↦[Finset.univ]{q} m (fLoc d)) ∗ nLoc d ↦[Finset.univ]{q} m (nLoc d))

theorem argPts_split (q : PosShare TreeShare) (t : Fin k0_t1_loop.trips) :
    (argPts m d q : sProp 𝕄) ⊣⊢ iprop((((fC L t).view.loc (tile d L) ↦[(fC L t).view.set]{q} m (fLoc d))
        ∗ (fLoc d ↦[Finset.univ \ (fC L t).view.set]{q} m (fLoc d)))
      ∗ (((nC L t).view.loc (tile d L) ↦[(nC L t).view.set]{q} m (nLoc d)) ∗ (nLoc d ↦[Finset.univ \ (nC L t).view.set]{q} m (nLoc d)))) := by
  unfold argPts
  exact sep_congr (pointsTo_split_subset (ℓ := fLoc d) (I := (fC L t).view.set) (q := q) (f := m (fLoc d)) (Finset.subset_univ _))
    (pointsTo_split_subset (ℓ := nLoc d) (I := (nC L t).view.set) (q := q) (f := m (nLoc d)) (Finset.subset_univ _))

/-- The destination rows' buffer, argument and semaphore: at rest, and with the load in flight. -/
def dIdle (q : PosShare TreeShare) : sProp 𝕄 :=
  iprop((∃ f, (dB).view.loc (tile d L) ↦[Finset.univ]{fullShare} f) ∗ (dLoc d ↦[Finset.univ]{q} m (dLoc d))
    ∗ semVal (tile d L, SemLoc.dma cc0_scratch11.sem) 0)

def dFly (q : PosShare TreeShare) (t : Fin k0_t1_loop.trips) : sProp 𝕄 :=
  iprop(∃ fd, Transfers.Flight countersEmb (tile d L) (.dma cc0_scratch11.sem) (default : HIx 1) (dB).view.dmaCredit
        iprop(((dB).view.loc (tile d L) ↦[Finset.univ]{fullShare} fd)
          ∗ ((dC L t).view.loc (tile d L) ↦[(dC L t).view.set]{q} m (dLoc d)))
    ∗ (dLoc d ↦[Finset.univ \ (dC L t).view.set]{q} m (dLoc d)))

theorem wp_loadD (q : PosShare TreeShare) (t : Fin k0_t1_loop.trips) {Φ : PUnit → sProp 𝕄} :
    dIdle m d L q
      ⊢ iprop((dFly m d L q t -∗ Φ ⟨⟩) -∗ wp frame (wpE (defs₀ (F := F)) 𝒱₀ (tile d L) none) Set.univ (loadD L t) Φ) := by
  unfold loadD dIdle
  iintro ⟨⟨%f, Hd⟩, Ha, Hs⟩ Hk
  ihave Ha := (pointsTo_split_subset (ℓ := dLoc d) (I := (dC L t).view.set) (q := q) (f := m (dLoc d)) (Finset.subset_univ _)).1 $$ Ha
  icases Ha with ⟨Ha, Hrest⟩
  iapply (Transfers.wp_dmaLocal (defs := defs₀ (F := F)) countersEmb 𝒱₀ (tile d L) none (src := dC L t) (dst := dB) (via := .same)
    (sm := .dma cc0_scratch11.sem) (q := q) (fs := m (dLoc d)) (fd := f) (Sd := Finset.univ) (k := Prog.ret)
    (default : HIx 1) (dB).view.dmaCredit rfl (by decide) (Finset.subset_univ _)) $$ [Ha Hd Hs]
  · isplitl [Ha]; · iexact Ha
    isplitl [Hd]; · iexact Hd
    iexact Hs
  iintro Hfl
  rw [wp_ret]
  imodintro
  iapply Hk
  unfold dFly
  iexists _
  isplitl [Hfl]; · iexact Hfl
  iexact Hrest

theorem wp_waitD (q : PosShare TreeShare) (t : Fin k0_t1_loop.trips) {O : CellTallies nD τ sig (HIx 1)} {W : Waits sig (HIx 1)}
    {Φ : PUnit → sProp 𝕄} :
    iprop(dFly m d L q t ∗ OW d L O W)
      ⊢ iprop((dIdle m d L q -∗ OW d L O W -∗ Φ ⟨⟩) -∗ wp frame (wpE (defs₀ (F := F)) 𝒱₀ (tile d L) none) Set.univ (waitD L t) Φ) := by
  unfold waitD dFly
  iintro ⟨⟨%fd, Hfl, Hrest⟩, HOW⟩ Hk
  ihave HOW := (OW_open d L) $$ HOW
  icases HOW with ⟨#Hmw, %W', %hW', HO⟩
  iapply (Transfers.wp_waitLocalO (defs := defs₀ (F := F)) countersEmb 𝒱₀ (tile d L) none (default : HIx 1) (rfl : (dB).view.dmaCredit = _)
    (k := Prog.ret)) $$ [Hfl HO]
  · isplitl [Hfl]; · iexact Hfl
    isplitl [HO]; · iexact HO
    iapply (Transfers.MayWaits.elim (SemLoc.dma cc0_scratch11.sem)) $$ Hmw
  iintro ⟨⟨Hd, Ha⟩, Hs, HO⟩
  rw [wp_ret]
  imodintro
  ihave Ha := (pointsTo_split_subset (ℓ := dLoc d) (I := (dC L t).view.set) (q := q) (f := m (dLoc d)) (Finset.subset_univ _)).2 $$ [Ha Hrest]
  · isplitl [Ha]; · iexact Ha
    iexact Hrest
  iapply Hk $$ [Hd Ha Hs]
  · unfold dIdle
    isplitl [Hd]
    · iexists _; iexact Hd
    isplitl [Ha]; · iexact Ha
    iexact Hs
  · iapply (OW_insert d L (SemLoc.dma cc0_scratch11.sem) hW')
    isplitl []; · iexact Hmw
    iexact HO

theorem wp_loads (q : PosShare TreeShare) (t : Fin k0_t1_loop.trips) {b : ℕ} (hb : k0_off2 L t = ![b]) {O : CellTallies nD τ sig (HIx 1)}
    {W : Waits sig (HIx 1)} {Φ : PUnit → sProp 𝕄} :
    iprop(lists d L ∗ argPts m d q ∗ dIdle m d L q ∗ semVal (tile d L, SemLoc.dma cc0_scratch10.sem) 0 ∗ OW d L O W)
      ⊢ iprop((((iB).view.loc (tile d L) ↦[Finset.univ]{fullShare} idxC m d b) -∗ vPts m d L b -∗ argPts m d q -∗ dIdle m d L q
            -∗ semVal (tile d L, SemLoc.dma cc0_scratch10.sem) 0 -∗ OW d L O W -∗ Φ ⟨⟩)
          -∗ wp frame (wpE (defs₀ (F := F)) 𝒱₀ (tile d L) none) Set.univ (loadF L t) fun _ =>
             wp frame (wpE (defs₀ (F := F)) 𝒱₀ (tile d L) none) Set.univ (loadN L t) fun _ =>
             wp frame (wpE (defs₀ (F := F)) 𝒱₀ (tile d L) none) Set.univ (loadD L t) fun _ =>
             wp frame (wpE (defs₀ (F := F)) 𝒱₀ (tile d L) none) Set.univ (waitF L t) fun _ =>
             wp frame (wpE (defs₀ (F := F)) 𝒱₀ (tile d L) none) Set.univ (waitN L t) fun _ =>
             wp frame (wpE (defs₀ (F := F)) 𝒱₀ (tile d L) none) Set.univ (waitD L t) Φ) := by
  unfold lists
  iintro ⟨⟨⟨%fi, Hi⟩, ⟨%fv, Hv⟩⟩, Ha, HD2, Hs, HOW⟩ Hk
  ihave Ha := (argPts_split m d L q t).1 $$ Ha
  icases Ha with ⟨⟨Hf, Hf'⟩, Hn, Hn'⟩
  rw [← fupd_wp_eq]
  imod (Transfers.batch_alloc' countersEmb (tile d L) (default : HIx 1) lN (lD m d L q t b)) $$ Hs with HB
  imodintro
  iapply (wp_loadF m d L q t hb fi) $$ [Hf Hi HB]
  · isplitl [Hf]; · iexact Hf
    isplitl [Hi]; · iexact Hi
    iexact HB
  iintro HB
  iapply (wp_loadN m d L q t hb fv) $$ [Hn Hv HB]
  · isplitl [Hn]; · iexact Hn
    isplitl [Hv]; · iexact Hv
    iexact HB
  iintro HB
  iapply (wp_loadD m d L q t) $$ HD2
  iintro HD2
  iapply (wp_waitF m d L q t b) $$ [HB HOW]
  · isplitl [HB]; · iexact HB
    iexact HOW
  iintro HB HOW
  iapply (wp_waitN m d L q t b) $$ [HB HOW]
  · isplitl [HB]; · iexact HB
    iexact HOW
  iintro HD Hs HOW
  iapply (wp_waitD m d L q t) $$ [HD2 HOW]
  · isplitl [HD2]; · iexact HD2
    iexact HOW
  iintro HD2 HOW
  ihave HD := (lD_all m d L q t b) $$ HD
  icases HD with ⟨⟨Hi, Hf⟩, Hv, Hn⟩
  iapply Hk $$ Hi Hv [Hf Hf' Hn Hn'] HD2 Hs HOW
  iapply (argPts_split m d L q t).2
  isplitl [Hf Hf']
  · isplitl [Hf]; · iexact Hf
    iexact Hf'
  · isplitl [Hn]; · iexact Hn
    iexact Hn'

end Cert.EdgeProof

end
-- ==== Proof.EdgeChunk.lean ====
/-
  A chunk of `Edge`, from its stages: the lists come in, sixteen windows go through the two row buffers, and the
  chunk's rows of the result are all written.
-/
module

public import proofs.«01_k».proof.Proof.EdgeLoad

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

local notation "WP" => wp frame (wpE (defs₀ (F := F)) 𝒱₀ (tile d L) none) Set.univ

/-- The first edge of the tile, and of its chunk `t`. -/
def tBase : ℕ := 163840 * (L 0).val + 10240 * (L 1).val
def cBase (t : Fin k0_t1_loop.trips) : ℕ := tBase L + 2560 * t.val

omit [FloatOps F] in
theorem oOff_eq (t : Fin k0_t1_loop.trips) (k : Fin 16) (h : Fin 2) : oOff L t k h = ![cBase L t + 160 * k.val + 80 * h.val, 0] := by
  unfold cBase tBase
  match h with
  | 0 => exact k0_off12_eq L t k
  | 1 => exact (k0_off13_eq L t k).trans (by congr 1)

omit [FloatOps F] in
theorem oPts_zero (n : ℕ) (f g : Buf (Elt F) (oLoc d)) : (oPts d n 0 f : sProp 𝕄) ⊢ oPts d n 0 g :=
  Entails.of_eq (pointsTo_congr fun x hx => by rw [mem_rowSet] at hx; omega)

/-! ## A window -/

theorem wp_workP (q : PosShare TreeShare) (t : Fin k0_t1_loop.trips) (p : Bool) (k : Fin 16) {O : CellTallies nD τ sig (HIx 1)}
    {W : Waits sig (HIx 1)} {Φ : PUnit → sProp 𝕄} :
    iprop(gFly m d L q (cBase L t) p k ∗ vPts m d L (cBase L t) ∗ semVal (tile d L, SemLoc.dma (ss p).sem) 0
        ∗ oPts d (cBase L t + 160 * k.val) 160 (m (oLoc d)) ∗ OW d L O W)
      ⊢ iprop((gIdle m d L q (cBase L t) p -∗ vPts m d L (cBase L t) -∗ sFly m d L (cBase L t + 160 * k.val) p 0 -∗ OW d L O W -∗ Φ ⟨⟩)
          -∗ WP (workP L t p k) Φ) := by
  have hw : (BitVec.ofNat 32 (160 * k.val)).toNat = 160 * k.val := by
    have := k.isLt
    rw [BitVec.toNat_ofNat]; omega
  unfold workP
  simp only [wp_bind]
  iintro ⟨Hg, Hv, Hs, Ho, HOW⟩ Hk
  iapply (wp_gWait m d L q (cBase L t) p k) $$ [Hg HOW]
  · isplitl [Hg]; · iexact Hg
    iexact HOW
  iintro Hr Hg HOW
  unfold scaleW
  have hsc := fun (Ψ : Unit → sProp 𝕄) => wp_scale m d L (rb p) (w := BitVec.ofNat 32 (160 * k.val)) (b := cBase L t) (by have := k.isLt; omega)
    (hok := k0_t2_ok) (bd := fun e _ => scaleBody L (rb p) (BitVec.ofNat 32 (160 * k.val)) e) (fun _ _ => rfl) (Φ := Ψ)
  rw [hw] at hsc
  iapply (hsc _) $$ [Hr Hv]
  · isplitl [Hr]; · iexact Hr
    iexact Hv
  iintro Hr Hv
  ihave Ho := (oPts_add d (cBase L t + 160 * k.val) 80 80 (m (oLoc d))).1 $$ Ho
  icases Ho with ⟨Ho0, Ho1⟩
  iapply (wp_sIssue0 m d L t p k (n := cBase L t + 160 * k.val) (oOff_eq L t k 0)) $$ [Hr Ho0 Hs]
  · isplitl [Hr]; · iexact Hr
    isplitl [Ho0]; · iexact Ho0
    iexact Hs
  iintro Hh
  iapply (wp_sIssue1 m d L t p k (n := cBase L t + 160 * k.val) (oOff_eq L t k 1)) $$ [Hh Ho1]
  · isplitl [Hh]; · iexact Hh
    iexact Ho1
  iintro Hf
  iapply Hk $$ Hg Hv Hf HOW

/-- A window's two stores waited for. -/
theorem wp_sWaits (t : Fin k0_t1_loop.trips) (p : Bool) (k : Fin 16) {n : ℕ} {O : CellTallies nD τ sig (HIx 1)} {W : Waits sig (HIx 1)}
    {Φ : PUnit → sProp 𝕄} :
    iprop(sFly m d L n p 0 ∗ OW d L O W)
      ⊢ iprop(((∃ g, rPts d L (rb p) g) -∗ oPts d n 160 (msg m d) -∗ semVal (tile d L, SemLoc.dma (ss p).sem) 0 -∗ OW d L O W -∗ Φ ⟨⟩)
          -∗ WP (sWait L t p k 0) fun _ => WP (sWait L t p k 1) Φ) := by
  iintro H Hk
  iapply (wp_sWait0 m d L t p k 0) $$ H
  iintro Hf HOW
  iapply (wp_sWait1 m d L t p k 1) $$ [Hf HOW]
  · isplitl [Hf]; · iexact Hf
    iexact HOW
  iexact Hk

/-- Between windows: `k`'s stores are in flight from one buffer, the next window's gather into the other; the rows before
    window `k` are written, the rows after the next window's start are not. -/
def mSt (q : PosShare TreeShare) (t : Fin k0_t1_loop.trips) (O : CellTallies nD τ sig (HIx 1)) (W : Waits sig (HIx 1)) (p : Bool) (k : ℕ)
    (hk : k + 2 ≤ 16) : sProp 𝕄 :=
  iprop(sFly m d L (cBase L t + 160 * k) (!p) 0 ∗ gIdle m d L q (cBase L t) (!p) ∗ gFly m d L q (cBase L t) p ⟨k + 1, by omega⟩
    ∗ vPts m d L (cBase L t) ∗ semVal (tile d L, SemLoc.dma (ss p).sem) 0
    ∗ oPts d (cBase L t) (160 * k) (msg m d) ∗ oPts d (cBase L t + 160 * (k + 1)) (160 * (15 - k)) (m (oLoc d)) ∗ OW d L O W)

theorem wp_midP (hpre : PreOK m) (q : PosShare TreeShare) (t : Fin k0_t1_loop.trips) {O : CellTallies nD τ sig (HIx 1)} {W : Waits sig (HIx 1)}
    (p : Bool) (k : ℕ) (hk : k + 3 ≤ 16) {Φ : PUnit → sProp 𝕄} :
    mSt m d L q t O W p k (Nat.le_of_succ_le hk)
      ⊢ iprop((mSt m d L q t O W (!p) (k + 1) hk -∗ Φ ⟨⟩)
          -∗ WP (midP L t p ⟨k, by omega⟩ ⟨k + 1, by omega⟩ ⟨k + 2, by omega⟩) Φ) := by
  unfold midP mSt
  simp only [wp_bind]
  iintro ⟨Hf, Hi, Hg, Hv, Hs, Hd, Ht, HOW⟩ Hk
  iapply (wp_sWaits m d L t (!p) ⟨k, _⟩) $$ [Hf HOW]
  · isplitl [Hf]; · iexact Hf
    iexact HOW
  iintro Hr Hd' Hs' HOW
  iapply (wp_gIssue m d L hpre q (cBase L t) (!p) ⟨k + 2, _⟩) $$ [Hr Hi]
  · isplitl [Hr]; · iexact Hr
    iexact Hi
  iintro Hg'
  rw [show 160 * (15 - k) = 160 + 160 * (15 - (k + 1)) by omega]
  ihave Ht := (oPts_add d (cBase L t + 160 * (k + 1)) 160 (160 * (15 - (k + 1))) (m (oLoc d))).1 $$ Ht
  icases Ht with ⟨Ho, Ht⟩
  iapply (wp_workP m d L q t p ⟨k + 1, _⟩) $$ [Hg Hv Hs Ho HOW]
  · isplitl [Hg]; · iexact Hg
    isplitl [Hv]; · iexact Hv
    isplitl [Hs]; · iexact Hs
    isplitl [Ho]; · iexact Ho
    iexact HOW
  iintro Hi Hv Hf HOW
  iapply Hk
  rw [Bool.not_not]
  isplitl [Hf]; · iexact Hf
  isplitl [Hi]; · iexact Hi
  isplitl [Hg']; · iexact Hg'
  isplitl [Hv]; · iexact Hv
  isplitl [Hs']; · iexact Hs'
  isplitl [Hd Hd']
  · rw [show 160 * (k + 1) = 160 * k + 160 by omega]
    iapply (oPts_add d (cBase L t) (160 * k) 160 (msg m d)).2
    isplitl [Hd]; · iexact Hd
    iexact Hd'
  isplitl [Ht]
  · rw [show cBase L t + 160 * (k + 1 + 1) = cBase L t + 160 * (k + 1) + 160 by omega]
    iexact Ht
  iexact HOW

/-- The parity after `n` swaps. -/
def par : ℕ → Bool → Bool
  | 0, p => p
  | n + 1, p => par n (!p)

theorem wp_midsP (hpre : PreOK m) (q : PosShare TreeShare) (t : Fin k0_t1_loop.trips) {O : CellTallies nD τ sig (HIx 1)} {W : Waits sig (HIx 1)} :
    ∀ (n k k₁ : ℕ) (p : Bool) (h : k + n + 2 ≤ 16) (_ : k₁ = k + n) (hk : k + 2 ≤ 16) (hk₁ : k₁ + 2 ≤ 16) {Φ : PUnit → sProp 𝕄},
    mSt m d L q t O W p k hk
      ⊢ iprop((mSt m d L q t O W (par n p) k₁ hk₁ -∗ Φ ⟨⟩) -∗ WP (midsP L t n k p h) Φ)
  | 0, k, k₁, p, h, h₁, hk, hk₁, Φ => by
    subst h₁
    unfold midsP
    rw [wp_pure]
    iintro H Hk
    imodintro
    iapply Hk
    iexact H
  | n + 1, k, k₁, p, h, h₁, hk, hk₁, Φ => by
    unfold midsP
    rw [wp_bind]
    have hk3 : k + 3 ≤ 16 := by omega
    iintro H Hk
    iapply (wp_midP m d L hpre q t p k hk3) $$ H
    iintro H
    iapply (wp_midsP hpre q t n (k + 1) k₁ (!p) _ (by omega) hk3 hk₁) $$ H
    iexact Hk

/-! ## A chunk -/

/-- A row buffer and its two semaphores, at rest. -/
def tIdle (p : Bool) : sProp 𝕄 :=
  iprop((∃ g, rPts d L (rb p) g) ∗ semVal (tile d L, SemLoc.dma (gs p).sem) 0 ∗ semVal (tile d L, SemLoc.dma (ss p).sem) 0)

/-- All a tile holds between chunks, beside its rows of the result. -/
def rest (q : PosShare TreeShare) : sProp 𝕄 :=
  iprop(lists d L ∗ argPts m d q ∗ dIdle m d L q ∗ ((tS).view.loc (tile d L) ↦[(tS).view.set]{q} m (tLoc d))
    ∗ semVal (tile d L, SemLoc.dma cc0_scratch10.sem) 0 ∗ tIdle d L false ∗ tIdle d L true)

omit [FloatOps F] in
theorem share_qp {ℓ : Loc nD τ sig} (S : Finset (Idx ℓ)) (q : PosShare TreeShare) (f : Buf (Elt F) ℓ) :
    ((ℓ ↦[S]{q} f) : sProp 𝕄) ⊣⊢ iprop((ℓ ↦[S]{qp q false} f) ∗ ℓ ↦[S]{qp q true} f) :=
  pointsTo_share (PosShare.mem_left_op_right q)

theorem gIdle_both (q : PosShare TreeShare) (b : ℕ) :
    iprop(((iB).view.loc (tile d L) ↦[Finset.univ]{fullShare} idxC m d b) ∗ ((tS).view.loc (tile d L) ↦[(tS).view.set]{q} m (tLoc d))
        ∗ semVal (tile d L, SemLoc.dma (gs false).sem) 0 ∗ semVal (tile d L, SemLoc.dma (gs true).sem) 0)
      ⊢ iprop(gIdle m d L q b false ∗ gIdle m d L q b true) := by
  unfold gIdle
  rw [show (iB).view.set = Finset.univ from View.set_whole _]
  iintro ⟨Hi, Ht, Hg0, Hg1⟩
  ihave Hi := (share_qp _ fullShare _).1 $$ Hi
  icases Hi with ⟨Hi0, Hi1⟩
  ihave Ht := (share_qp _ q _).1 $$ Ht
  icases Ht with ⟨Ht0, Ht1⟩
  isplitl [Ht0 Hi0 Hg0]
  · isplitl [Ht0]; · iexact Ht0
    isplitl [Hi0]; · iexact Hi0
    iexact Hg0
  · isplitl [Ht1]; · iexact Ht1
    isplitl [Hi1]; · iexact Hi1
    iexact Hg1

theorem gIdle_join (q : PosShare TreeShare) (b : ℕ) :
    iprop(gIdle m d L q b false ∗ gIdle m d L q b true)
      ⊢ iprop(((iB).view.loc (tile d L) ↦[Finset.univ]{fullShare} idxC m d b) ∗ ((tS).view.loc (tile d L) ↦[(tS).view.set]{q} m (tLoc d))
        ∗ semVal (tile d L, SemLoc.dma (gs false).sem) 0 ∗ semVal (tile d L, SemLoc.dma (gs true).sem) 0) := by
  unfold gIdle
  rw [show (iB).view.set = Finset.univ from View.set_whole _]
  iintro ⟨⟨Ht0, Hi0, Hg0⟩, Ht1, Hi1, Hg1⟩
  isplitl [Hi0 Hi1]
  · iapply (share_qp _ fullShare _).2
    isplitl [Hi0]; · iexact Hi0
    iexact Hi1
  isplitl [Ht0 Ht1]
  · iapply (share_qp _ q _).2
    isplitl [Ht0]; · iexact Ht0
    iexact Ht1
  isplitl [Hg0]; · iexact Hg0
  iexact Hg1

theorem wp_chunk (hpre : PreOK m) (q : PosShare TreeShare) (t : Fin k0_t1_loop.trips) {O : CellTallies nD τ sig (HIx 1)} {W : Waits sig (HIx 1)}
    {Φ : PUnit → sProp 𝕄} :
    iprop(rest m d L q ∗ oPts d (cBase L t) 2560 (m (oLoc d)) ∗ OW d L O W)
      ⊢ iprop((rest m d L q -∗ oPts d (cBase L t) 2560 (msg m d) -∗ OW d L O W -∗ Φ ⟨⟩) -∗ WP (chunkP L t) Φ) := by
  unfold chunkP rest tIdle
  simp only [wp_bind, wp_pure]
  iintro ⟨⟨Hl, Ha, HD, Htab, Hs8, ⟨Hr0, Hg0, Hs0⟩, Hr1, Hg1, Hs1⟩, Ho, HOW⟩ Hk
  iapply (wp_loads m d L q t (b := cBase L t) (k0_off2_eq L t)) $$ [Hl Ha HD Hs8 HOW]
  · isplitl [Hl]; · iexact Hl
    isplitl [Ha]; · iexact Ha
    isplitl [HD]; · iexact HD
    isplitl [Hs8]; · iexact Hs8
    iexact HOW
  iintro Hi Hv Ha HD Hs8 HOW
  ihave Hg := (gIdle_both m d L q (cBase L t)) $$ [Hi Htab Hg0 Hg1]
  · isplitl [Hi]; · iexact Hi
    isplitl [Htab]; · iexact Htab
    isplitl [Hg0]; · iexact Hg0
    iexact Hg1
  icases Hg with ⟨Hg0, Hg1⟩
  iapply (wp_gIssue m d L hpre q (cBase L t) false 0) $$ [Hr0 Hg0]
  · isplitl [Hr0]; · iexact Hr0
    iexact Hg0
  iintro Hg0
  iapply (wp_gIssue m d L hpre q (cBase L t) true 1) $$ [Hr1 Hg1]
  · isplitl [Hr1]; · iexact Hr1
    iexact Hg1
  iintro Hg1
  ihave Ho := (oPts_add d (cBase L t) 0 2560 (m (oLoc d))).1 $$ Ho
  icases Ho with ⟨Hd, Ho⟩
  ihave Hd := (oPts_zero d (cBase L t) (m (oLoc d)) (msg m d)) $$ Hd
  ihave Ho := (oPts_add d (cBase L t + 0) 160 2400 (m (oLoc d))).1 $$ Ho
  icases Ho with ⟨Ho, Ht⟩
  iapply (wp_workP m d L q t false 0) $$ [Hg0 Hv Hs0 Ho HOW]
  · isplitl [Hg0]; · iexact Hg0
    isplitl [Hv]; · iexact Hv
    isplitl [Hs0]; · iexact Hs0
    isplitl [Ho]; · iexact Ho
    iexact HOW
  iintro Hi0 Hv Hf0 HOW
  iapply (wp_midsP m d L hpre q t 14 0 14 true _ rfl (by omega) (by omega)) $$ [Hf0 Hi0 Hg1 Hv Hs1 Hd Ht HOW]
  · unfold mSt
    isplitl [Hf0]; · iexact Hf0
    isplitl [Hi0]; · iexact Hi0
    isplitl [Hg1]; · iexact Hg1
    isplitl [Hv]; · iexact Hv
    isplitl [Hs1]; · iexact Hs1
    isplitl [Hd]; · iexact Hd
    isplitl [Ht]; · iexact Ht
    iexact HOW
  rw [show par 14 true = true from rfl]
  unfold mSt
  iintro ⟨Hf0, Hi0, Hg1, Hv, Hs1, Hd, Ht, HOW⟩
  iapply (wp_workP m d L q t true 15) $$ [Hg1 Hv Hs1 Ht HOW]
  · isplitl [Hg1]; · iexact Hg1
    isplitl [Hv]; · iexact Hv
    isplitl [Hs1]; · iexact Hs1
    isplitl [Ht]; · iexact Ht
    iexact HOW
  iintro Hi1 Hv Hf1 HOW
  iapply (wp_sWaits m d L t false 14) $$ [Hf0 HOW]
  · isplitl [Hf0]; · iexact Hf0
    iexact HOW
  iintro Hr0 Hd' Hs0 HOW
  ihave Hd := (oPts_add d (cBase L t) 2240 160 (msg m d)).2 $$ [Hd Hd']
  · isplitl [Hd]; · iexact Hd
    iexact Hd'
  iapply (wp_sWaits m d L t true 15) $$ [Hf1 HOW]
  · isplitl [Hf1]; · iexact Hf1
    iexact HOW
  iintro Hr1 Hd' Hs1 HOW
  ihave Hd := (oPts_add d (cBase L t) 2400 160 (msg m d)).2 $$ [Hd Hd']
  · isplitl [Hd]; · iexact Hd
    iexact Hd'
  ihave Hg := (gIdle_join m d L q (cBase L t)) $$ [Hi0 Hi1]
  · isplitl [Hi0]; · iexact Hi0
    iexact Hi1
  icases Hg with ⟨Hi, Htab, Hg0, Hg1⟩
  imodintro
  iapply Hk $$ [Hi Hv Ha HD Htab Hs8 Hr0 Hg0 Hs0 Hr1 Hg1 Hs1] Hd HOW
  isplitl [Hi Hv]
  · unfold lists
    isplitl [Hi]
    · iexists _; iexact Hi
    · iexists _; iexact Hv
  isplitl [Ha]; · iexact Ha
  isplitl [HD]; · iexact HD
  isplitl [Htab]; · iexact Htab
  isplitl [Hs8]; · iexact Hs8
  isplitl [Hr0 Hg0 Hs0]
  · isplitl [Hr0]; · iexact Hr0
    isplitl [Hg0]; · iexact Hg0
    iexact Hs0
  · isplitl [Hr1]; · iexact Hr1
    isplitl [Hg1]; · iexact Hg1
    iexact Hs1

/-! ## A tile -/

theorem wp_tile (hpre : PreOK m) (q : PosShare TreeShare) (v1 : BitVec 32) {O : CellTallies nD τ sig (HIx 1)} {W : Waits sig (HIx 1)}
    {bd : Fin k0_t1_loop.trips → PUnit → TProg F L PUnit} (hbd : ∀ t u, bd t u = tripP L v1 t) {Φ : PUnit → sProp 𝕄} :
    iprop(rest m d L q ∗ oPts d (tBase L) 10240 (m (oLoc d)) ∗ OW d L O W)
      ⊢ iprop((rest m d L q -∗ oPts d (tBase L) 10240 (msg m d) -∗ OW d L O W -∗ Φ ⟨⟩)
          -∗ WP (Scf.Loop.for k0_t1_loop k0_t1_ok ⟨⟩ bd) Φ) := by
  iintro ⟨Hr, Ho, HOW⟩ Hk
  iapply (Scf.wp_for frame (wpE (defs₀ (F := F)) 𝒱₀ (tile d L) none) Set.univ _ _ _ k0_t1_ok ⟨⟩ bd
    (fun t _ => iprop(rest m d L q ∗ oPts d (tBase L) (2560 * t) (msg m d)
      ∗ oPts d (tBase L + 2560 * t) (2560 * (4 - t)) (m (oLoc d)) ∗ OW d L O W)) (fun t u => by
      have ht : t.val < 4 := t.isLt
      rw [hbd, wp_chunk_eq, show 2560 * (4 - t.val) = 2560 + 2560 * (4 - (t.val + 1)) by omega]
      iintro ⟨Hr, Hd, Ho, HOW⟩
      ihave Ho := (oPts_add d (tBase L + 2560 * t.val) 2560 (2560 * (4 - (t.val + 1))) (m (oLoc d))).1 $$ Ho
      icases Ho with ⟨Ho, Ht⟩
      iapply (wp_chunk m d L hpre q t) $$ [Hr Ho HOW]
      · isplitl [Hr]; · iexact Hr
        isplitl [Ho]; · iexact Ho
        iexact HOW
      iintro Hr Hd' HOW
      isplitl [Hr]; · iexact Hr
      isplitl [Hd Hd']
      · rw [show 2560 * (t.val + 1) = 2560 * t.val + 2560 by omega]
        iapply (oPts_add d (tBase L) (2560 * t.val) 2560 (msg m d)).2
        isplitl [Hd]; · iexact Hd
        iexact Hd'
      isplitl [Ht]
      · rw [show tBase L + 2560 * (t.val + 1) = tBase L + 2560 * t.val + 2560 by omega]
        iexact Ht
      iexact HOW))
  isplitl [Hr Ho HOW]
  · ihave Ho := (oPts_add d (tBase L) 0 10240 (m (oLoc d))).1 $$ Ho
    icases Ho with ⟨Hd, Ho⟩
    ihave Hd := (oPts_zero d (tBase L) (m (oLoc d)) (msg m d)) $$ Hd
    isplitl [Hr]; · iexact Hr
    isplitl [Hd]; · iexact Hd
    isplitl [Ho]; · iexact Ho
    iexact HOW
  rw [show Scf.trips k0_t1_loop.lb k0_t1_loop.ub k0_t1_loop.st = 4 from rfl]
  iintro %acc ⟨Hr, Hd, -, HOW⟩
  iapply Hk $$ Hr Hd HOW

end Cert.EdgeProof

end
-- ==== Proof.EdgeEnds.lean ====
/-
  The two ends of `Edge`: before the barrier a tile copies its rows of zeros into its SparseCore's shared memory, after
  its chunks it copies them out into the second result. Each end is a copy of 624 rows, and on the last tile one of the
  sixteen rows left over.
-/
module

public import proofs.«01_k».proof.Proof.EdgeChunk

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A copy waited for at once -/

variable [FloatOps F] (m : (ℓ : Loc nD τ sig) → Buf (Elt F) ℓ) (d : Dev nD) (L : grid0.Coords)

local notation "WP" => wp frame (wpE (defs₀ (F := F)) 𝒱₀ (tile d L) none) Set.univ

theorem wp_copy {sp sp' : Space} {s : Shape} {e : EltTy} (src : Memref sig .scVector sp s e) (dst : Memref sig .scVector sp' s e)
    (sem : DmaSem sig) {hs hs' : src.view.WordExact} {hd hd' : dst.view.WordExact} {ht : DmaTarget.Typed (nD := nD) sp (.dma sem) (DmaTarget.here (p := Proc.scVector (cV L) (jV L)) dst)}
    (hN : 0 < dst.view.dmaCredit) (q : PosShare TreeShare) (fs : Buf (Elt F) (src.view.loc (tile d L)))
    (fd g : Buf (Elt F) (dst.view.loc (tile d L))) (hg : src.view.read (Elt F) fs = dst.view.read (Elt F) g)
    {O : CellTallies nD τ sig (HIx 1)} {W : Waits sig (HIx 1)} {Φ : PUnit → sProp 𝕄} :
    iprop((src.view.loc (tile d L) ↦[src.view.set]{q} fs) ∗ (dst.view.loc (tile d L) ↦[dst.view.set]{fullShare} fd)
        ∗ semVal (tile d L, SemLoc.dma sem) 0 ∗ OW d L O W)
      ⊢ iprop(((src.view.loc (tile d L) ↦[src.view.set]{q} fs) -∗ (dst.view.loc (tile d L) ↦[dst.view.set]{fullShare} g)
            -∗ semVal (tile d L, SemLoc.dma sem) 0 -∗ OW d L O W -∗ Φ ⟨⟩)
          -∗ WP (Prog.lift (.enqueueDma src (.here dst) (.dma sem) hs hd ht)) fun _ =>
             WP (Prog.lift (.waitDma2 sem src dst hs' hd')) Φ) := by
  iintro ⟨Hs, Hd, Hv, HOW⟩ Hk
  iapply (Transfers.wp_dmaLocal (defs := defs₀ (F := F)) countersEmb 𝒱₀ (tile d L) none (src := src) (dst := dst) (via := .same)
    (sm := .dma sem) (q := q) (fs := fs) (fd := fd) (Sd := dst.view.set) (k := Prog.ret)
    (default : HIx 1) dst.view.dmaCredit rfl hN (Finset.Subset.refl _)) $$ [Hs Hd Hv]
  · isplitl [Hs]; · iexact Hs
    isplitl [Hd]; · iexact Hd
    iexact Hv
  iintro Hfl
  rw [wp_ret]
  imodintro
  ihave HOW := (OW_open d L) $$ HOW
  icases HOW with ⟨#Hmw, %W', %hW', HO⟩
  iapply (Transfers.wp_waitLocalO (defs := defs₀ (F := F)) countersEmb 𝒱₀ (tile d L) none (default : HIx 1) (rfl : dst.view.dmaCredit = _)
    (k := Prog.ret)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  rw [wp_ret]
  imodintro
  iapply Hk $$ Hs [Hd] Hv
  · iapply (Entails.of_eq (pointsTo_congr (ℓ := dst.view.loc (tile d L)) (q := fullShare) (fun y hy => by
      show dst.view.write (Elt F) fd (src.view.read (Elt F) fs) Finset.univ y = g y
      rw [hg, View.write_read_eq_piecewise]
      exact Finset.piecewise_eq_of_mem _ _ _ hy))) $$ Hd
  · iapply (OW_insert d L (SemLoc.dma sem) hW')
    isplitl []; · iexact Hmw
    iexact HO

/-! ## The rows each end copies -/

abbrev hLoc (d : Dev nD) (c : Fin τ.nSC) : Loc nD τ sig := (d, ⟨.shared, ⟨0, by decide⟩, c⟩)
/-- How the shared memory's rows and the second result's are numbered. -/
abbrev hRow (c : Fin τ.nSC) : Idx (hLoc d c) → ℕ := fun x => ((x : S10000x128.Idx) 0).val
abbrev aRow : Idx (aLoc d) → ℕ := fun x => ((x : S20000x128.Idx) 0).val

/-- The tile's number. -/
abbrev iL : Fin 16 := Fin.cast (show grid0.bound 1 = 16 from rfl) (L 1)

theorem rect_rows {N c n : ℕ} {off : Fin 2 → ℕ} {inb} (hoff : off = ![n, 0]) (x : (⟨2, ![N, 128]⟩ : Shape).Idx) :
    x ∈ (Rect.unit (s := (⟨2, ![N, 128]⟩ : Shape)) off ![c, 128] inb).set ↔ n ≤ (x 0).val ∧ (x 0).val < n + c := by
  subst hoff
  rw [Rect.mem_set_unit]
  have h1 : (x 1).val < 128 := (x 1).isLt
  constructor
  · intro h; exact h 0
  · intro h a
    match a with
    | 0 => exact h
    | 1 => exact ⟨Nat.zero_le _, show (x 1).val < 0 + 128 by omega⟩

abbrev zM : Memref sig .scVector .hbm S624x128 .f32 :=
  (zV).slice (Rect.unit (s := S10000x128) (k0_off1 L) S624x128.size (k0_off1_inb L)) (fun _ => rfl)
abbrev hM : Memref sig .scVector .shared S624x128 .f32 :=
  (hV).slice (Rect.unit (s := S10000x128) (k0_off1 L) S624x128.size (k0_off1_inb L)) (fun _ => rfl)
abbrev aM : Memref sig .scVector .hbm S624x128 .f32 :=
  (aV).slice (Rect.unit (s := S20000x128) (k0_off134 L) S624x128.size (k0_off134_inb L)) (fun _ => rfl)
abbrev zT : Memref sig .scVector .hbm S16x128 .f32 :=
  (zV).slice (Rect.unit (s := S10000x128) ![9984, 0] S16x128.size inb_S10000x128_S16x128_9984_0) (fun _ => rfl)
abbrev hT : Memref sig .scVector .shared S16x128 .f32 :=
  (hV).slice (Rect.unit (s := S10000x128) ![9984, 0] S16x128.size inb_S10000x128_S16x128_9984_0) (fun _ => rfl)
abbrev aT (h : k0_cond2 L = 1#1) : Memref sig .scVector .hbm S16x128 .f32 :=
  (aV).slice (Rect.unit (s := S20000x128) (k0_off135 L) S16x128.size (k0_off135_inb L h)) (fun _ => rfl)

theorem pts_hM (f : Buf (Elt F) (hLoc d (cV L))) :
    ((hM L).view.loc (tile d L) ↦[(hM L).view.set]{fullShare} f : sProp 𝕄) = rowPts (hRow d (cV L)) (0 + 624 * (iL L).val) 624 f := by
  refine congrArg (fun S => (hLoc d (cV L) ↦[S]{fullShare} f : sProp 𝕄)) ?_
  refine (View.set_slice _ _).trans (Finset.map_refl.trans (Finset.ext fun x => ?_))
  rw [mem_rowsOf, Nat.zero_add]
  exact rect_rows (N := 10000) (c := 624) (k0_off1_eq L) x

theorem pts_hT (f : Buf (Elt F) (hLoc d (cV L))) :
    ((hT).view.loc (tile d L) ↦[(hT).view.set]{fullShare} f : sProp 𝕄) = rowPts (hRow d (cV L)) (0 + 9984) 16 f := by
  refine congrArg (fun S => (hLoc d (cV L) ↦[S]{fullShare} f : sProp 𝕄)) ?_
  refine (View.set_slice _ _).trans (Finset.map_refl.trans (Finset.ext fun x => ?_))
  rw [mem_rowsOf, Nat.zero_add]
  exact rect_rows (N := 10000) (c := 16) rfl x

theorem pts_aM (f : Buf (Elt F) (aLoc d)) :
    ((aM L).view.loc (tile d L) ↦[(aM L).view.set]{fullShare} f : sProp 𝕄)
      = rowPts (aRow d) (10000 * (L 0).val + 624 * (iL L).val) 624 f := by
  refine congrArg (fun S => (aLoc d ↦[S]{fullShare} f : sProp 𝕄)) ?_
  refine (View.set_slice _ _).trans (Finset.map_refl.trans (Finset.ext fun x => ?_))
  rw [mem_rowsOf]
  exact rect_rows (N := 20000) (c := 624) (k0_off134_eq L) x

theorem pts_aT (h : k0_cond2 L = 1#1) (f : Buf (Elt F) (aLoc d)) :
    ((aT L h).view.loc (tile d L) ↦[(aT L h).view.set]{fullShare} f : sProp 𝕄) = rowPts (aRow d) (10000 * (L 0).val + 9984) 16 f := by
  refine congrArg (fun S => (aLoc d ↦[S]{fullShare} f : sProp 𝕄)) ?_
  refine (View.set_slice _ _).trans (Finset.map_refl.trans (Finset.ext fun x => ?_))
  rw [mem_rowsOf]
  exact rect_rows (N := 20000) (c := 16) (k0_off135_eq L) x

/-- The tile that has the rows left over is the last. -/
theorem last_iff : k0_cond2 L = 1#1 ↔ iL L = 15 := by
  have h : ∀ L : grid0.Coords, k0_cond2 L = 1#1 ↔ iL L = 15 := by decide +kernel
  exact h L

theorem zer_read : (zM L).view.read (Elt F) (m (zLoc d)) = (hM L).view.read (Elt F) (zer m d : Buf (Elt F) (hLoc d (cV L))) := rfl
theorem zer_readT : (zT).view.read (Elt F) (m (zLoc d)) = (hT).view.read (Elt F) (zer m d : Buf (Elt F) (hLoc d (cV L))) := rfl

theorem zer_agg (y : S10000x128.Idx) (x : S20000x128.Idx) {c : ℕ} (h0 : (x 0).val = 10000 * c + (y 0).val)
    (h1 : (x 1).val = (y 1).val) : zer m d y = agg m d x := by
  have hy0 : (y 0).val < 10000 := (y 0).isLt
  have hy1 : (y 1).val < 128 := (y 1).isLt
  unfold zer agg
  refine congrArg (m (zLoc d)) (funext fun a => Fin.ext ?_)
  match a with
  | 0 => show (y 0).val = (x 0).val % 10000; omega
  | 1 => show (y 1).val = (x 1).val % 128; omega

theorem slice_zer_agg {c n n' : ℕ} {off off' : Fin 2 → ℕ} (ho : off = ![n, 0]) (ho' : off' = ![n', 0]) (hn : n' = 10000 * c + n)
    {size : Fin 2 → ℕ} {inb : ∀ a, off a + size a ≤ S10000x128.size a} {inb' : ∀ a, off' a + size a ≤ S20000x128.size a}
    (x : (⟨2, size⟩ : Shape).Idx) :
    zer m d ((Rect.unit (s := S10000x128) off size inb).emb x) = agg m d ((Rect.unit (s := S20000x128) off' size inb').emb x) := by
  subst ho ho'
  refine zer_agg m d _ _ (c := c) ?_ rfl
  show n' + 1 * (x 0).val = 10000 * c + (n + 1 * (x 0).val)
  omega

theorem agg_read : (hM L).view.read (Elt F) (zer m d : Buf (Elt F) (hLoc d (cV L))) = (aM L).view.read (Elt F) (agg m d) :=
  funext fun x => slice_zer_agg m d (k0_off1_eq L) (k0_off134_eq L) rfl x
theorem agg_readT (h : k0_cond2 L = 1#1) :
    (hT).view.read (Elt F) (zer m d : Buf (Elt F) (hLoc d (cV L))) = (aT L h).view.read (Elt F) (agg m d) :=
  funext fun x => slice_zer_agg m d rfl (k0_off135_eq L) rfl x

/-! ## The two ends -/

/-- The sixteen rows left over: the last subcore's. -/
abbrev endT {ℓ : Loc nD τ sig} (φ : Idx ℓ → ℕ) (b : ℕ) (i : Fin 16) (f : Buf (Elt F) ℓ) : sProp 𝕄 :=
  iprop(if i = 15 then rowPts φ (b + 9984) 16 f else emp)

def zeroT (k : TProg F L PUnit) : TProg F L PUnit := do
  if _h : k0_cond2 L = 1#1 then do
    Prog.lift (.enqueueDma zT (.here hT) (.dma cc0_scoped1.sem) (View.wordExact_bits rfl) (View.wordExact_bits rfl) ⟨Or.inl rfl, trivial⟩)
    Prog.lift (.waitDma2 cc0_scoped1.sem zT hT (View.wordExact_bits rfl) (View.wordExact_bits rfl))
    k
  else k

def zeroP (k : TProg F L PUnit) : TProg F L PUnit := do
  Prog.lift (.enqueueDma (zM L) (.here (hM L)) (.dma cc0_scoped0.sem) (View.wordExact_bits rfl) (View.wordExact_bits rfl) ⟨Or.inl rfl, trivial⟩)
  Prog.lift (.waitDma2 cc0_scoped0.sem (zM L) (hM L) (View.wordExact_bits rfl) (View.wordExact_bits rfl))
  zeroT L k

def writeT : TProg F L PUnit := do
  if h : k0_cond2 L = 1#1 then do
    Prog.lift (.enqueueDma hT (.here (aT L h)) (.dma cc0_scoped3.sem) (View.wordExact_bits rfl) (View.wordExact_bits rfl) ⟨Or.inl rfl, trivial⟩)
    Prog.lift (.waitDma2 cc0_scoped3.sem hT (aT L h) (View.wordExact_bits rfl) (View.wordExact_bits rfl))
    pure ⟨⟩
  else do
    pure ⟨⟩

def writeP : TProg F L PUnit := do
  Prog.lift (.enqueueDma (hM L) (.here (aM L)) (.dma cc0_scoped2.sem) (View.wordExact_bits rfl) (View.wordExact_bits rfl) ⟨Or.inl rfl, trivial⟩)
  Prog.lift (.waitDma2 cc0_scoped2.sem (hM L) (aM L) (View.wordExact_bits rfl) (View.wordExact_bits rfl))
  writeT L

theorem wp_zeroT (q : PosShare TreeShare) {f : Buf (Elt F) (hLoc d (cV L))} {O : CellTallies nD τ sig (HIx 1)}
    {W : Waits sig (HIx 1)} {k : TProg F L PUnit} {Φ : PUnit → sProp 𝕄} :
    iprop((zLoc d ↦[Finset.univ]{q} m (zLoc d)) ∗ endT (hRow d (cV L)) 0 (iL L) f
        ∗ semVal (tile d L, SemLoc.dma cc0_scoped1.sem) 0 ∗ OW d L O W)
      ⊢ iprop(((zLoc d ↦[Finset.univ]{q} m (zLoc d)) -∗ endT (hRow d (cV L)) 0 (iL L) (zer m d)
            -∗ semVal (tile d L, SemLoc.dma cc0_scoped1.sem) 0 -∗ OW d L O W -∗ WP k Φ)
          -∗ WP (zeroT L k) Φ) := by
  unfold zeroT endT
  by_cases h : k0_cond2 L = 1#1
  · rw [dif_pos h, if_pos ((last_iff L).1 h), if_pos ((last_iff L).1 h)]
    simp only [wp_bind]
    iintro ⟨Hz, Hh, Hs, HOW⟩ Hk
    ihave Hz := (pointsTo_split_subset (ℓ := zLoc d) (I := (zT).view.set) (q := q) (f := m (zLoc d)) (Finset.subset_univ _)).1 $$ Hz
    icases Hz with ⟨Hz, Hrest⟩
    ihave Hh := (Entails.of_eq (pts_hT d L f).symm) $$ Hh
    iapply (wp_copy d L zT hT cc0_scoped1.sem (by decide) q (m (zLoc d)) f (zer m d) (zer_readT m d)) $$ [Hz Hh Hs HOW]
    · isplitl [Hz]; · iexact Hz
      isplitl [Hh]; · iexact Hh
      isplitl [Hs]; · iexact Hs
      iexact HOW
    iintro Hz Hh Hs HOW
    ihave Hz := (pointsTo_split_subset (ℓ := zLoc d) (I := (zT).view.set) (q := q) (f := m (zLoc d)) (Finset.subset_univ _)).2 $$ [Hz Hrest]
    · isplitl [Hz]; · iexact Hz
      iexact Hrest
    ihave Hh := (Entails.of_eq (pts_hT d L (zer m d))) $$ Hh
    iapply Hk $$ Hz Hh Hs HOW
  · have h15 : ¬ iL L = 15 := fun e => h ((last_iff L).2 e)
    rw [dif_neg h]
    simp only [if_neg h15]
    iintro ⟨Hz, Hh, Hs, HOW⟩ Hk
    iapply Hk $$ Hz Hh Hs HOW

theorem wp_zeroP (q : PosShare TreeShare) {O : CellTallies nD τ sig (HIx 1)} {W : Waits sig (HIx 1)} {k : TProg F L PUnit} {Φ : PUnit → sProp 𝕄} :
    iprop((zLoc d ↦[Finset.univ]{q} m (zLoc d)) ∗ (∃ f, endPts (hRow d (cV L)) 0 (iL L) f)
        ∗ semVal (tile d L, SemLoc.dma cc0_scoped0.sem) 0 ∗ semVal (tile d L, SemLoc.dma cc0_scoped1.sem) 0 ∗ OW d L O W)
      ⊢ iprop(((zLoc d ↦[Finset.univ]{q} m (zLoc d)) -∗ endPts (hRow d (cV L)) 0 (iL L) (zer m d)
            -∗ semVal (tile d L, SemLoc.dma cc0_scoped0.sem) 0 -∗ semVal (tile d L, SemLoc.dma cc0_scoped1.sem) 0 -∗ OW d L O W -∗ WP k Φ)
          -∗ WP (zeroP L k) Φ) := by
  unfold zeroP endPts
  simp only [wp_bind]
  iintro ⟨Hz, ⟨%f, Hh, Hh'⟩, Hs, Hs', HOW⟩ Hk
  ihave Hz := (pointsTo_split_subset (ℓ := zLoc d) (I := (zM L).view.set) (q := q) (f := m (zLoc d)) (Finset.subset_univ _)).1 $$ Hz
  icases Hz with ⟨Hz, Hrest⟩
  ihave Hh := (Entails.of_eq (pts_hM d L f).symm) $$ Hh
  iapply (wp_copy d L (zM L) (hM L) cc0_scoped0.sem (Nat.succ_pos _) q (m (zLoc d)) f (zer m d) (zer_read m d L)) $$ [Hz Hh Hs HOW]
  · isplitl [Hz]; · iexact Hz
    isplitl [Hh]; · iexact Hh
    isplitl [Hs]; · iexact Hs
    iexact HOW
  iintro Hz Hh Hs HOW
  ihave Hz := (pointsTo_split_subset (ℓ := zLoc d) (I := (zM L).view.set) (q := q) (f := m (zLoc d)) (Finset.subset_univ _)).2 $$ [Hz Hrest]
  · isplitl [Hz]; · iexact Hz
    iexact Hrest
  ihave Hh := (Entails.of_eq (pts_hM d L (zer m d))) $$ Hh
  iapply (wp_zeroT m d L q (f := f)) $$ [Hz Hh' Hs' HOW]
  · isplitl [Hz]; · iexact Hz
    isplitl [Hh']; · iexact Hh'
    isplitl [Hs']; · iexact Hs'
    iexact HOW
  iintro Hz Hh' Hs' HOW
  iapply Hk $$ Hz [Hh Hh'] Hs Hs' HOW
  isplitl [Hh]; · iexact Hh
  iexact Hh'

theorem wp_writeT {f : Buf (Elt F) (aLoc d)} {O : CellTallies nD τ sig (HIx 1)} {W : Waits sig (HIx 1)} {Φ : PUnit → sProp 𝕄} :
    iprop(endT (hRow d (cV L)) 0 (iL L) (zer m d) ∗ endT (aRow d) (10000 * (L 0).val) (iL L) f
        ∗ semVal (tile d L, SemLoc.dma cc0_scoped3.sem) 0 ∗ OW d L O W)
      ⊢ iprop((endT (hRow d (cV L)) 0 (iL L) (zer m d) -∗ endT (aRow d) (10000 * (L 0).val) (iL L) (agg m d)
            -∗ semVal (tile d L, SemLoc.dma cc0_scoped3.sem) 0 -∗ OW d L O W -∗ Φ ⟨⟩)
          -∗ WP (writeT L) Φ) := by
  unfold writeT endT
  by_cases h : k0_cond2 L = 1#1
  · rw [dif_pos h, if_pos ((last_iff L).1 h), if_pos ((last_iff L).1 h), if_pos ((last_iff L).1 h)]
    simp only [wp_bind, wp_pure]
    iintro ⟨Hh, Ha, Hs, HOW⟩ Hk
    ihave Hh := (Entails.of_eq (pts_hT d L (zer m d)).symm) $$ Hh
    ihave Ha := (Entails.of_eq (pts_aT d L h f).symm) $$ Ha
    iapply (wp_copy d L hT (aT L h) cc0_scoped3.sem (Nat.succ_pos _) fullShare (zer m d) f (agg m d) (agg_readT m d L h)) $$ [Hh Ha Hs HOW]
    · isplitl [Hh]; · iexact Hh
      isplitl [Ha]; · iexact Ha
      isplitl [Hs]; · iexact Hs
      iexact HOW
    iintro Hh Ha Hs HOW
    ihave Hh := (Entails.of_eq (pts_hT d L (zer m d))) $$ Hh
    ihave Ha := (Entails.of_eq (pts_aT d L h (agg m d))) $$ Ha
    imodintro
    iapply Hk $$ Hh Ha Hs HOW
  · have h15 : ¬ iL L = 15 := fun e => h ((last_iff L).2 e)
    rw [dif_neg h, wp_pure]
    simp only [if_neg h15]
    iintro ⟨Hh, Ha, Hs, HOW⟩ Hk
    imodintro
    iapply Hk $$ Hh Ha Hs HOW

theorem wp_writeP {f : Buf (Elt F) (aLoc d)} {O : CellTallies nD τ sig (HIx 1)} {W : Waits sig (HIx 1)} {Φ : PUnit → sProp 𝕄} :
    iprop(endPts (hRow d (cV L)) 0 (iL L) (zer m d) ∗ endPts (aRow d) (10000 * (L 0).val) (iL L) f
        ∗ semVal (tile d L, SemLoc.dma cc0_scoped2.sem) 0 ∗ semVal (tile d L, SemLoc.dma cc0_scoped3.sem) 0 ∗ OW d L O W)
      ⊢ iprop((endPts (hRow d (cV L)) 0 (iL L) (zer m d) -∗ endPts (aRow d) (10000 * (L 0).val) (iL L) (agg m d)
            -∗ semVal (tile d L, SemLoc.dma cc0_scoped2.sem) 0 -∗ semVal (tile d L, SemLoc.dma cc0_scoped3.sem) 0 -∗ OW d L O W -∗ Φ ⟨⟩)
          -∗ WP (writeP L) Φ) := by
  unfold writeP endPts
  simp only [wp_bind]
  iintro ⟨⟨Hh, Hh'⟩, ⟨Ha, Ha'⟩, Hs, Hs', HOW⟩ Hk
  ihave Hh := (Entails.of_eq (pts_hM d L (zer m d)).symm) $$ Hh
  ihave Ha := (Entails.of_eq (pts_aM d L f).symm) $$ Ha
  iapply (wp_copy d L (hM L) (aM L) cc0_scoped2.sem (Nat.succ_pos _) fullShare (zer m d) f (agg m d) (agg_read m d L)) $$ [Hh Ha Hs HOW]
  · isplitl [Hh]; · iexact Hh
    isplitl [Ha]; · iexact Ha
    isplitl [Hs]; · iexact Hs
    iexact HOW
  iintro Hh Ha Hs HOW
  ihave Hh := (Entails.of_eq (pts_hM d L (zer m d))) $$ Hh
  ihave Ha := (Entails.of_eq (pts_aM d L (agg m d))) $$ Ha
  iapply (wp_writeT m d L (f := f)) $$ [Hh' Ha' Hs' HOW]
  · isplitl [Hh']; · iexact Hh'
    isplitl [Ha']; · iexact Ha'
    isplitl [Hs']; · iexact Hs'
    iexact HOW
  iintro Hh' Ha' Hs' HOW
  iapply Hk $$ [Hh Hh'] [Ha Ha'] Hs Hs' HOW
  · isplitl [Hh]; · iexact Hh
    iexact Hh'
  · isplitl [Ha]; · iexact Ha
    iexact Ha'

end Cert.EdgeProof

end
-- ==== Proof.EdgeTask.lean ====
/-
  A tile's whole task in `Edge`, and its three parts: filling the shared buffer, the chunks after the barrier, and the
  writing out.
-/
module

public import proofs.«01_k».proof.Proof.EdgeEnds

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (d : Dev nD) (L : grid0.Coords)
local notation "WP" => wp frame (wpE (defs₀ (F := F)) 𝒱₀ (tile d L) none) Set.univ

/-- The call's task at its buffers. -/
abbrev taskP : TProg F L PUnit :=
  cc0_edge (F := F) L tV (Memref.isWhole_whole _) fV (Memref.isWhole_whole _) dV (Memref.isWhole_whole _) nV (Memref.isWhole_whole _)
    zV (Memref.isWhole_whole _) oV (Memref.isWhole_whole _) aV (Memref.isWhole_whole _) hV (Memref.isWhole_whole _)
    iB (Memref.isWhole_whole _) dB (Memref.isWhole_whole _) vB (Memref.isWhole_whole _) r0 (Memref.isWhole_whole _) r1 (Memref.isWhole_whole _)
    cc0_scratch6 cc0_scratch7 cc0_scratch8 cc0_scratch9 cc0_scratch10 cc0_scratch11 cc0_scoped0 cc0_scoped1 cc0_scoped2 cc0_scoped3

/-- The number the printed trips compute their offsets from. -/
abbrev v1L : BitVec 32 := Scalar.addi (Scalar.muli (BitVec.ofNat 32 (L 0).val) 16#32) (BitVec.ofNat 32 (L 1).val)

theorem task_eq :
    taskP (F := F) L = zeroP L (do
      SparseCore.subcoreBarrier sc_bar0 (grid0.bound 1) hsub0
      Scf.Loop.for k0_t1_loop k0_t1_ok ⟨⟩ fun t _ => tripP L (v1L L) t
      writeP L) := by
  unfold taskP
  rw [cc0_edge_eq_skeleton]
  rfl

end Cert.EdgeProof

end
-- ==== Proof.EdgeTile.lean ====
/-
  One tile of `Edge`, from what its launch hands it: the tile's own buffers and semaphores, its shares of the arguments,
  its rows of the results and of the shared buffer, and its part of the barrier; all come back, the rows written.
-/
module

public import proofs.«01_k».proof.Proof.EdgeBar
public import proofs.«01_k».proof.Proof.EdgeTask

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The tile's own buffers and semaphores -/

abbrev cell (s : DmaSems sig S_) : GSem nD τ sig := (tile d L, .dma s.sem)
/-- The tile's ten semaphores. -/
def cells : Finset (GSem nD τ sig) :=
  {cell d L cc0_scratch6, cell d L cc0_scratch7, cell d L cc0_scratch8, cell d L cc0_scratch9, cell d L cc0_scratch10,
    cell d L cc0_scratch11, cell d L cc0_scoped0, cell d L cc0_scoped1, cell d L cc0_scoped2, cell d L cc0_scoped3}

theorem cell_own {s : DmaSems sig S_} (h : (SemLoc.dma s.sem : SemLoc sig).isScoped .scVector = true) : cell d L s ∈ ownCells (tile d L) :=
  mem_ownCells.mpr ⟨rfl, h⟩

theorem cells_own : cells d L ⊆ ownCells (tile d L) := by
  intro g hg
  simp only [cells, Finset.mem_insert, Finset.mem_singleton] at hg
  rcases hg with rfl | rfl | rfl | rfl | rfl | rfl | rfl | rfl | rfl | rfl <;> exact cell_own d L (by decide)

theorem cell_ne {s s' : DmaSems sig S_} (h : (SemLoc.dma s.sem : SemLoc sig) ≠ .dma s'.sem) : cell d L s ≠ cell d L s' :=
  fun e => h (congrArg Prod.snd e)

theorem cells_split (Φ : GSem nD τ sig → sProp 𝕄) :
    bigSep (cells d L) Φ = iprop(Φ (cell d L cc0_scratch6) ∗ Φ (cell d L cc0_scratch7) ∗ Φ (cell d L cc0_scratch8) ∗ Φ (cell d L cc0_scratch9)
      ∗ Φ (cell d L cc0_scratch10) ∗ Φ (cell d L cc0_scratch11) ∗ Φ (cell d L cc0_scoped0) ∗ Φ (cell d L cc0_scoped1)
      ∗ Φ (cell d L cc0_scoped2) ∗ Φ (cell d L cc0_scoped3)) := by
  have h : ∀ {s s' : DmaSems sig S_}, (SemLoc.dma s.sem : SemLoc sig) ≠ .dma s'.sem → cell d L s ≠ cell d L s' := cell_ne d L
  unfold cells
  rw [SparseCore.bigSep_insert', SparseCore.bigSep_insert', SparseCore.bigSep_insert', SparseCore.bigSep_insert', SparseCore.bigSep_insert',
    SparseCore.bigSep_insert', SparseCore.bigSep_insert', SparseCore.bigSep_insert', SparseCore.bigSep_insert', bigSep_singleton] <;>
    simp only [Finset.mem_insert, Finset.mem_singleton, not_or]
  · exact h (by decide)
  · exact ⟨h (by decide), h (by decide)⟩
  · exact ⟨h (by decide), h (by decide), h (by decide)⟩
  · exact ⟨h (by decide), h (by decide), h (by decide), h (by decide)⟩
  · exact ⟨h (by decide), h (by decide), h (by decide), h (by decide), h (by decide)⟩
  · exact ⟨h (by decide), h (by decide), h (by decide), h (by decide), h (by decide), h (by decide)⟩
  · exact ⟨h (by decide), h (by decide), h (by decide), h (by decide), h (by decide), h (by decide), h (by decide)⟩
  · exact ⟨h (by decide), h (by decide), h (by decide), h (by decide), h (by decide), h (by decide), h (by decide), h (by decide)⟩
  · exact ⟨h (by decide), h (by decide), h (by decide), h (by decide), h (by decide), h (by decide), h (by decide), h (by decide), h (by decide)⟩

abbrev dref (b : Ref sig .scVector) : DevRef τ sig := (Proc.scVector (cV L) (jV L)).devRef b
/-- The tile's five buffers. -/
def refs : Finset (DevRef τ sig) :=
  {dref L cc0_scratch1, dref L cc0_scratch2, dref L cc0_scratch3, dref L cc0_scratch4, dref L cc0_scratch5}

theorem refs_own : refs L ⊆ ownRefs (τ := τ) (.scVector (cV L) (jV L)) := by
  intro b hb
  simp only [refs, Finset.mem_insert, Finset.mem_singleton] at hb
  rcases hb with rfl | rfl | rfl | rfl | rfl <;> exact SparseCore.Cfg.mem_ownRefs_of_owner rfl

theorem refs_split (Φ : DevRef τ sig → sProp 𝕄) :
    bigSep (refs L) Φ = iprop(Φ (dref L cc0_scratch1) ∗ Φ (dref L cc0_scratch2) ∗ Φ (dref L cc0_scratch3) ∗ Φ (dref L cc0_scratch4)
      ∗ Φ (dref L cc0_scratch5)) := by
  have h : ∀ {b b' : Ref sig .scVector}, b ≠ b' → dref L b ≠ dref L b' := fun hb e => hb (Proc.devRef_injective _ e)
  unfold refs
  rw [SparseCore.bigSep_insert', SparseCore.bigSep_insert', SparseCore.bigSep_insert', SparseCore.bigSep_insert', bigSep_singleton] <;>
    simp only [Finset.mem_insert, Finset.mem_singleton, not_or]
  · exact h (by decide)
  · exact ⟨h (by decide), h (by decide)⟩
  · exact ⟨h (by decide), h (by decide), h (by decide)⟩
  · exact ⟨h (by decide), h (by decide), h (by decide), h (by decide)⟩

theorem ownSems0_tile :
    (ownSems0 (tile d L) : sProp 𝕄)
      = iprop((semVal (cell d L cc0_scratch6) 0 ∗ semVal (cell d L cc0_scratch7) 0 ∗ semVal (cell d L cc0_scratch8) 0
          ∗ semVal (cell d L cc0_scratch9) 0 ∗ semVal (cell d L cc0_scratch10) 0 ∗ semVal (cell d L cc0_scratch11) 0
          ∗ semVal (cell d L cc0_scoped0) 0 ∗ semVal (cell d L cc0_scoped1) 0 ∗ semVal (cell d L cc0_scoped2) 0 ∗ semVal (cell d L cc0_scoped3) 0)
          ∗ bigSep (ownCells (tile d L) \ cells d L) fun g => semVal g 0) := by
  unfold SparseCore.Cfg.ownSems0
  rw [SparseCore.bigSep_sdiff_split' (cells_own d L), cells_split]

theorem ownBufs_tile :
    (ownBufs (tile d L) : sProp 𝕄)
      = iprop(((∃ f, (tile d L).loc cc0_scratch1 ↦{fullShare} f) ∗ (∃ f, (tile d L).loc cc0_scratch2 ↦{fullShare} f)
          ∗ (∃ f, (tile d L).loc cc0_scratch3 ↦{fullShare} f)
          ∗ (∃ f, (tile d L).loc cc0_scratch4 ↦{fullShare} f) ∗ (∃ f, (tile d L).loc cc0_scratch5 ↦{fullShare} f))
          ∗ bigSep (ownRefs (τ := τ) (.scVector (cV L) (jV L)) \ refs L) fun b => iprop(∃ f, ((d, b) : Loc nD τ sig) ↦{fullShare} f)) := by
  unfold SparseCore.Cfg.ownBufs
  refine (SparseCore.bigSep_sdiff_split' (refs_own L)).trans ?_
  rw [refs_split]

/-! ## The tile -/

variable [FloatOps F]

theorem set_tS : (tS).view.set = (Finset.univ : Finset S80000x128.Idx) := by
  show ((View.whole (main_arg0_scv : Ref sig .scVector)).slice (Rect.unit (s := S80000x128) ![0, 0] S80000x128.size inb_S80000x128_S80000x128_0_0)).set = _
  rw [View.set_slice]
  refine (Finset.map_refl (s := (Rect.unit (s := S80000x128) ![0, 0] S80000x128.size inb_S80000x128_S80000x128_0_0).set)).trans ?_
  ext x
  simp only [Rect.mem_set_unit, Finset.mem_univ, iff_true]
  intro a
  match a with
  | 0 => exact ⟨Nat.zero_le _, show (x 0).val < 0 + 80000 by have : (x 0).val < 80000 := (x 0).isLt; omega⟩
  | 1 => exact ⟨Nat.zero_le _, show (x 1).val < 0 + 128 by have : (x 1).val < 128 := (x 1).isLt; omega⟩

/-- Shares of the arguments, and rows `n` to `n + c` of the gathered result. -/
def work (q : PosShare TreeShare) (n c : ℕ) (f : Buf (Elt F) (oLoc d)) : sProp 𝕄 :=
  iprop((tLoc d ↦[Finset.univ]{q} m (tLoc d)) ∗ argPts m d q ∗ (dLoc d ↦[Finset.univ]{q} m (dLoc d)) ∗ (zLoc d ↦[Finset.univ]{q} m (zLoc d))
    ∗ oPts d n c f)

theorem rPts_of (p : Bool) (f : Buf (Elt F) ((rb p).view.loc (tile d L))) :
    ((rb p).view.loc (tile d L) ↦[(rb p).view.set]{fullShare} f : sProp 𝕄) ⊢ iprop(∃ g, rPts d L (rb p) g) := by
  unfold rPts
  iintro H
  iexists _; iexists f
  isplitl [H]; · iexact H
  ipureintro; rfl

theorem buf_row (p : Bool) :
    (iprop(∃ f, (rb p).view.loc (tile d L) ↦[(rb p).view.set]{fullShare} f) : sProp 𝕄) ⊣⊢ iprop(∃ g, rPts d L (rb p) g) := by
  constructor
  · iintro ⟨%f, H⟩
    iapply (rPts_of d L p f) $$ H
  · unfold rPts
    iintro ⟨%g, %f, H, -⟩
    iexists f; iexact H

theorem buf_row0 : (iprop(∃ f, (tile d L).loc cc0_scratch4 ↦{fullShare} f) : sProp 𝕄) ⊣⊢ iprop(∃ g, rPts d L (rb false) g) := by
  refine .trans (.of_eq ?_) (buf_row d L false)
  rw [show (rb false).view.set = Finset.univ from View.set_whole _]
theorem buf_row1 : (iprop(∃ f, (tile d L).loc cc0_scratch5 ↦{fullShare} f) : sProp 𝕄) ⊣⊢ iprop(∃ g, rPts d L (rb true) g) := by
  refine .trans (.of_eq ?_) (buf_row d L true)
  rw [show (rb true).view.set = Finset.univ from View.set_whole _]

/-! ## The barrier -/

/-- The tile, among all. -/
abbrev me : Tile := (d, cV L, jV L)

theorem wp_bar (O : CellTallies nD τ sig (HIx 1)) (W : Waits sig (HIx 1)) (hO : ∀ g, O g none = 0)
    (hOlev : ∀ g ι, 0 < O g ι → 8 * (0 : Fin 1).val + 6 ≤ (K (F := F)).lev g ι) {k : PUnit → TProg F L PUnit} {Φ : PUnit → sProp 𝕄} :
    iprop(levAts (K (F := F)).L (K (F := F)).lev ∗ bkit (me d L) ∗ OW d L (O + oxV d (cV L)) W)
      ⊢ iprop((semVal (bcell (me d L)) 0 -∗ OW d L O (insert (SemLoc.reg sc_bar0, some 0) W) -∗ wp frame (wpE (defs₀ (F := F)) 𝒱₀ (tile d L) none) Set.univ (k ⟨⟩) Φ)
          -∗ wp frame (wpE (defs₀ (F := F)) 𝒱₀ (tile d L) none) Set.univ (SparseCore.subcoreBarrier sc_bar0 (grid0.bound 1) hsub0 >>= k) Φ) := by
  unfold bkit bOpen bOwn
  iintro ⟨#Hlv, ⟨⟨⟨%κ, #Hinv⟩, #Hr⟩, Hat, Htok, Hcred⟩, HOW⟩ Hk
  ihave Hmw := (show levAts (K (F := F)).L (K (F := F)).lev ⊢ Transfers.MayWaits (tile d L) (default : HIx 1) O from
    (K (F := F)).mayWaits_none (thr := tile d L) hO) $$ Hlv
  ihave HOW := (OW_open d L) $$ HOW
  icases HOW with ⟨-, %W', %hW', HO⟩
  ihave Hp := (bigSep_of (s := (Finset.univ : Finset (Fin (grid0.bound 1))))
    (R := bigSep Finset.univ fun t : Tile => cellInv EB (bRd (F := F)) (κ (bcell t)) (bcell t))
    (Ψ := fun j => cellInv EB (bRd (F := F)) (κ (peer (me d L) j)) (peer (me d L) j))
    fun j => bigSep_elim (Φ := fun t : Tile => (cellInv EB (bRd (F := F)) (κ (bcell t)) (bcell t) : sProp 𝕄)) (Finset.mem_univ (d, cV L, j.castLE hsub0))) $$ Hinv
  iapply (SparseCore.wp_subcoreBarrier 𝒱₀ none EB (bRd (F := F)) d (sc := cV L) (i := jV L) sc_bar0 (grid0.bound 1) hsub0 (L 1) rfl κ (fun _ => 0)
    (jV L).val (fun j => bRd_mem (d, cV L, j.castLE hsub0) (jV L)) (fun _ => rfl) (bRd_units (me d L)) (some 0) O W') $$ [HO Htok Hcred Hat Hp]
  · isplitl [Hp]; · iexact Hp
    isplitl [HO]; · iexact HO
    isplitl [Htok]
    · iapply (SparseCore.ent (bigSep_mono (Φ := fun j : Fin (grid0.bound 1) => iprop((bigSep Finset.univ fun t : Tile => reached EB (bcell t) 0) ∗ dutyTok EB (peer (me d L) j) 0 (jV L).val))
        fun j _ => show iprop((bigSep Finset.univ fun t : Tile => reached EB (bcell t) 0) ∗ dutyTok EB (peer (me d L) j) 0 (jV L).val)
          ⊢ (iprop(dutyTok EB (peer (me d L) j) 0 (jV L).val ∗ emp ∗ reached EB (peer (me d L) j) 0) : sProp 𝕄) by
            iintro ⟨Hr, Ht⟩
            isplitl [Ht]; · iexact Ht
            isplitr; · iempintro
            iapply (SparseCore.ent (bigSep_elim (Φ := fun t : Tile => (reached EB (bcell t) 0 : sProp 𝕄)) (Finset.mem_univ (d, cV L, j.castLE hsub0)))) $$ Hr))
      iapply (bigSep_with (F := F))
      isplitr; · iexact Hr
      iexact Htok
    isplitl [Hcred]; · iexact Hcred
    isplitl [Hat]; · iexact Hat
    iapply ((K (F := F)).mayOwe_of_bound (thr := V d (cV L) (jV L)) 3 (fun p hp => by
        rw [Finset.mem_singleton] at hp; subst hp
        exact le_of_eq ((K (F := F)).lev_V_reg d _ _ bar_ne_go 0))
      (fun g ι hg => lt_of_lt_of_le (by decide) (hOlev g ι hg)))
    iexact Hlv
  iintro ⟨HO, Hat, -, -⟩
  imod (Rounds.cell_close EB (bRd (F := F)) (g := bcell (me d L)) (Set.mem_univ (κ _)) (fun h => h) (bRd_later _)) $$ [Hat] with Hbar
  · isplitr
    · iapply (SparseCore.ent (bigSep_elim (Φ := fun t : Tile => (cellInv EB (bRd (F := F)) (κ (bcell t)) (bcell t) : sProp 𝕄)) (Finset.mem_univ (me d L)))) $$ Hinv
    · iexact Hat
  iapply Hk $$ Hbar
  unfold OW
  isplitl [Hmw]; · iexact Hmw
  iexists _
  isplitr
  swap; · iexact HO
  ipureintro
  intro p hp
  rcases Finset.mem_insert.mp hp with h | h
  · exact .inl (h ▸ Finset.mem_insert_self _ _)
  · exact (hW' p h).imp_left (Finset.mem_insert_of_mem ·)

/-! ## The tile, from end to end -/

/-- Tile `i` of SparseCore `c`'s rows of the shared buffer and of the second result. -/
def ends (c : Fin τ.nSC) (i : Fin 16) (fh : Buf (Elt F) (hLoc d c)) (fa : Buf (Elt F) (aLoc d)) : sProp 𝕄 :=
  iprop(endPts (hRow d c) 0 i fh ∗ endPts (aRow d) (10000 * c.val) i fa)

theorem tile_body (hF : (K (F := F)).Facts) (hpre : PreOK m) (q : PosShare TreeShare) (O : CellTallies nD τ sig (HIx 1)) (W : Waits sig (HIx 1))
    (hO : ∀ g, O g none = 0) (hOlev : ∀ g ι, 0 < O g ι → 8 * (0 : Fin 1).val + 6 ≤ (K (F := F)).lev g ι) :
    iprop(levAts (K (F := F)).L (K (F := F)).lev ∗ bkit (me d L)
        ∗ (work m d q (tBase L) 10240 (m (oLoc d)) ∗ ∃ f, ends d (cV L) (iL L) f (m (aLoc d)))
        ∗ scopedBufs (tile d L) ∗ scopedSems0 (tile d L) ∗ owes (tile d L) (O + oxV d (cV L)) W)
      ⊢ wp frame (wpE (defs₀ (F := F)) 𝒱₀ (tile d L) none) Set.univ (taskP L)
          fun _ => iprop(((work m d q (tBase L) 10240 (msg m d) ∗ ends d (cV L) (iL L) (zer m d) (agg m d)) ∗ semVal (bcell (me d L)) 0)
            ∗ scopedBufs (tile d L) ∗ scopedSems0 (tile d L)
            ∗ ∃ W', ⌜∀ p ∈ W', p ∈ W ∨ p.2 = none ∨ p.2 = some (0 : Fin 1)⌝ ∗ owes (tile d L) O W') := by
  rw [task_eq, (K (F := F)).scopedBufs_V hF d (cV L) (jV L), SparseCore.Cfg.scopedSems0_V (Val := Elt F) d (cV L) (jV L), ownSems0_tile, ownBufs_tile]
  unfold work ends
  iintro ⟨#Hlv, Hkit, ⟨⟨Ht, Ha, Hd, Hz, Ho⟩, %fh, Hh, Hr⟩, ⟨⟨Hi, Hdb, Hv, Hr0, Hr1⟩, Hbufs⟩,
    ⟨⟨Hg0, Hg1, Hs0, Hs1, Hs10, Hs11, Hc0, Hc1, Hc2, Hc3⟩, Hsems⟩, HO⟩
  ihave Hmw := (show levAts (K (F := F)).L (K (F := F)).lev ⊢ Transfers.MayWaits (tile d L) (default : HIx 1) (O + oxV d (cV L)) from
    (K (F := F)).mayWaits_none (thr := tile d L) fun g => by rw [Pi.add_apply, Finsupp.add_apply, hO g, oxV_none]) $$ Hlv
  ihave Ht := (Entails.of_eq (show (tLoc d ↦[Finset.univ]{q} m (tLoc d) : sProp 𝕄)
    = (tS).view.loc (tile d L) ↦[(tS).view.set]{q} m (tLoc d) by rw [set_tS])) $$ Ht
  ihave Hr0 := (buf_row0 d L).1 $$ Hr0
  ihave Hr1 := (buf_row1 d L).1 $$ Hr1
  iapply (wp_zeroP m d L q (O := O + oxV d (cV L)) (W := W)) $$ [Hmw Hz Hh Hc0 Hc1 HO]
  · isplitl [Hz]; · iexact Hz
    isplitl [Hh]; · iexists fh; iexact Hh
    isplitl [Hc0]; · iexact Hc0
    isplitl [Hc1]; · iexact Hc1
    unfold OW
    isplitl [Hmw]; · iexact Hmw
    iexists W
    isplitr
    · ipureintro; exact fun p hp => Or.inl hp
    · iexact HO
  iintro Hz Hh Hc0 Hc1 HOW
  iapply (wp_bar d L O W hO hOlev) $$ [Hkit HOW]
  · isplitr; · iexact Hlv
    isplitl [Hkit]; · iexact Hkit
    iexact HOW
  iintro Hbar HOW
  iapply (Entails.of_eq (wp_bind ..).symm)
  iapply (wp_tile m d L hpre q (v1L L) (O := O) (W := insert (SemLoc.reg sc_bar0, some 0) W) (fun _ _ => rfl)) $$ [Ht Ha Hd Ho Hi Hdb Hv Hr0 Hr1 Hg0 Hg1 Hs0 Hs1 Hs10 Hs11 HOW]
  · isplitl [Ht Ha Hd Hi Hdb Hv Hr0 Hr1 Hg0 Hg1 Hs0 Hs1 Hs10 Hs11]
    · unfold rest lists tIdle dIdle
      isplitl [Hi Hv]
      · isplitl [Hi]; · iexact Hi
        iexact Hv
      isplitl [Ha]; · iexact Ha
      isplitl [Hd Hdb Hs11]
      · isplitl [Hdb]; · iexact Hdb
        isplitl [Hd]; · iexact Hd
        iexact Hs11
      isplitl [Ht]; · iexact Ht
      isplitl [Hs10]; · iexact Hs10
      isplitl [Hr0 Hg0 Hs0]
      · isplitl [Hr0]; · iexact Hr0
        isplitl [Hg0]; · iexact Hg0
        iexact Hs0
      · isplitl [Hr1]; · iexact Hr1
        isplitl [Hg1]; · iexact Hg1
        iexact Hs1
    isplitl [Ho]; · iexact Ho
    iexact HOW
  unfold rest lists tIdle dIdle
  iintro ⟨⟨Hi, Hv⟩, Ha, ⟨Hdb, Hd, Hs11⟩, Ht, Hs10, ⟨Hr0, Hg0, Hs0⟩, Hr1, Hg1, Hs1⟩ Ho HOW
  iapply (wp_writeP m d L) $$ [Hh Hr Hc2 Hc3 HOW]
  · isplitl [Hh]; · iexact Hh
    isplitl [Hr]; · iexact Hr
    isplitl [Hc2]; · iexact Hc2
    isplitl [Hc3]; · iexact Hc3
    iexact HOW
  iintro Hh Hr Hc2 Hc3 HOW
  ihave Ht := (Entails.of_eq (show ((tS).view.loc (tile d L) ↦[(tS).view.set]{q} m (tLoc d) : sProp 𝕄)
    = tLoc d ↦[Finset.univ]{q} m (tLoc d) by rw [set_tS])) $$ Ht
  ihave Hr0 := (buf_row0 d L).2 $$ Hr0
  ihave Hr1 := (buf_row1 d L).2 $$ Hr1
  ihave HOW := (OW_open d L) $$ HOW
  icases HOW with ⟨-, %W', %hW', HO⟩
  isplitl [Ht Ha Hd Hz Ho Hh Hr Hbar]
  · isplitr [Hbar]
    · isplitl [Ht Ha Hd Hz Ho]
      · isplitl [Ht]; · iexact Ht
        isplitl [Ha]; · iexact Ha
        isplitl [Hd]; · iexact Hd
        isplitl [Hz]; · iexact Hz
        iexact Ho
      · isplitl [Hh]; · iexact Hh
        iexact Hr
    · iexact Hbar
  isplitl [Hi Hdb Hv Hr0 Hr1 Hbufs]
  · isplitr [Hbufs]
    · isplitl [Hi]; · iexact Hi
      isplitl [Hdb]; · iexact Hdb
      isplitl [Hv]; · iexact Hv
      isplitl [Hr0]; · iexact Hr0
      iexact Hr1
    · iexact Hbufs
  isplitr [HO]
  · isplitr [Hsems]
    · isplitl [Hg0]; · iexact Hg0
      isplitl [Hg1]; · iexact Hg1
      isplitl [Hs0]; · iexact Hs0
      isplitl [Hs1]; · iexact Hs1
      isplitl [Hs10]; · iexact Hs10
      isplitl [Hs11]; · iexact Hs11
      isplitl [Hc0]; · iexact Hc0
      isplitl [Hc1]; · iexact Hc1
      isplitl [Hc2]; · iexact Hc2
      iexact Hc3
    · iexact Hsems
  iexists W'
  isplitr
  swap; · iexact HO
  ipureintro
  intro p hp
  rcases hW' p hp with h | h
  · rcases Finset.mem_insert.mp h with h | h
    · exact .inr (.inr (h ▸ rfl))
    · exact .inl h
  · exact .inr (.inl h)

end Cert.EdgeProof

end
-- ==== Proof.EdgeRun.lean ====
/-
  The run of `Edge`: each SparseCore is handed half a share of the arguments and half of the results' rows, each of its
  sixteen tiles a sixteenth of those and of the SparseCore's shared buffer; joined again, the first result holds every
  gathered row times its factor, the second each SparseCore's copy of the rows it began with, and the arguments are as
  they were.
-/
module

public import proofs.«01_k».proof.Proof.EdgeTile

@[expose] public section

noncomputable section

namespace Cert.EdgeProof

open Cert.EdgeIdeal Cert.EdgeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F] (m : (ℓ : Loc nD τ sig) → Buf (Elt F) ℓ) (ρ : Dev nD → PrngReg)

/-! ## Shares -/

/-- Share `i` of the `2 ^ n` that `n` halvings of `q` give. -/
def piece (q : PosShare TreeShare) : (n : ℕ) → Fin (2 ^ n) → PosShare TreeShare
  | 0, _ => q
  | n + 1, i => qp (piece q n (finProdFinEquiv.symm (Fin.cast (by rw [Nat.pow_succ]) i : Fin (2 ^ n * 2))).1)
      (decide ((finProdFinEquiv.symm (Fin.cast (by rw [Nat.pow_succ]) i : Fin (2 ^ n * 2))).2 = 1))

omit [FloatOps F] in
theorem share_pieces {ℓ : Loc nD τ sig} (S : Finset (Idx ℓ)) (q : PosShare TreeShare) (f : Buf (Elt F) ℓ) :
    ∀ n : ℕ, (ℓ ↦[S]{q} f : sProp 𝕄) = bigSep Finset.univ fun i : Fin (2 ^ n) => ℓ ↦[S]{piece q n i} f
  | 0 => (bigSep_univ_of_subsingleton (0 : Fin 1) (Φ := fun i : Fin (2 ^ 0) => (ℓ ↦[S]{piece q 0 i} f : sProp 𝕄))).symm
  | n + 1 => by
    rw [share_pieces S q f n, bigSep_univ_equiv (finProdFinEquiv.trans (finCongr (by rw [Nat.pow_succ])) : Fin (2 ^ n) × Fin 2 ≃ Fin (2 ^ (n + 1))),
      BI.bigSep_univ_prod]
    refine bigSep_congr fun i _ => ?_
    rw [BI.bigSep_fin_two]
    refine (BI.Entails.antisymm (share_qp S (piece q n i) f).1 (share_qp S (piece q n i) f).2).trans ?_
    congr 2 <;> simp [piece]

/-! ## Rows -/

omit [FloatOps F] in
theorem oPts_tiles (d : Dev nD) (b c n : ℕ) (f : Buf (Elt F) (oLoc d)) :
    (oPts d b (c * n) f : sProp 𝕄) = bigSep Finset.univ fun i : Fin n => oPts d (b + c * i.val) c f :=
  rowPts_tiles (fun x : Idx (oLoc d) => ((x : S327680x128.Idx) 0).val) b c n f

omit [FloatOps F] in
theorem rowPts_all {ℓ : Loc nD τ sig} (φ : Idx ℓ → ℕ) {n : ℕ} (h : ∀ x, φ x < n) (f : Buf (Elt F) ℓ) :
    (rowPts φ 0 n f : sProp 𝕄) = ℓ ↦{fullShare} f := by
  have hs : rowsOf φ 0 n = Finset.univ := by
    ext x
    have := h x
    simp only [mem_rowsOf, Finset.mem_univ, iff_true]
    omega
  unfold rowPts
  rw [hs]

/-! ## What the handshakes carry -/

/-- SparseCore `c`'s share of the arguments, and tile `i`'s of those. -/
abbrev coreSh (c : Fin 2) : PosShare TreeShare := piece fullShare 1 c
abbrev tileSh (c : Fin 2) (i : Fin 16) : PosShare TreeShare := piece (coreSh c) 4 i

/-- SparseCore `c` of the grid and its tile `i`, among the device's. -/
abbrev coreOf (c : Fin 2) : Fin τ.nSC := Fin.castLE hcore0 c
abbrev subOf (i : Fin 16) : Fin τ.nSub := Fin.castLE hsub0 i

abbrev coreWork (d : Dev nD) (c : Fin 2) (f : Buf (Elt F) (oLoc d)) (fa : Buf (Elt F) (aLoc d)) : sProp 𝕄 :=
  iprop(work m d (coreSh c) (163840 * c.val) 163840 f ∗ rowPts (aRow d) (10000 * c.val) 10000 fa)
abbrev tileWork (d : Dev nD) (c : Fin 2) (i : Fin 16) (f : Buf (Elt F) (oLoc d)) : sProp 𝕄 :=
  work m d (tileSh c i) (163840 * c.val + 10240 * i.val) 10240 f

abbrev tileIn (d : Dev nD) (c : Fin 2) (i : Fin 16) : sProp 𝕄 :=
  iprop(tileWork m d c i (m (oLoc d)) ∗ ∃ f, ends d (coreOf c) i f (m (aLoc d)))
abbrev tileOut (d : Dev nD) (c : Fin 2) (i : Fin 16) : sProp 𝕄 :=
  iprop((tileWork m d c i (msg m d) ∗ ends d (coreOf c) i (zer m d) (agg m d)) ∗ semVal (bcell (d, coreOf c, subOf i)) 0)

/-- The barrier semaphores of SparseCore `c`, at zero. -/
abbrev bars (d : Dev nD) (c : Fin 2) : sProp 𝕄 := bigSep Finset.univ fun i : Fin 16 => semVal (bcell (d, coreOf c, subOf i)) 0

instance work_storable (d : Dev nD) (q : PosShare TreeShare) (n c : ℕ) (f : Buf (Elt F) (oLoc d)) :
    BI.Storable (upEmb : UEmb _ 𝕄) (work m d q n c f) := by
  unfold work argPts; infer_instance

omit [FloatOps F] in
instance endPts_storable {ℓ : Loc nD τ sig} (φ : Idx ℓ → ℕ) (b : ℕ) (i : Fin 16) (f : Buf (Elt F) ℓ) :
    BI.Storable (upEmb : UEmb _ 𝕄) (endPts φ b i f : sProp 𝕄) := by
  unfold endPts
  by_cases h : i = 15
  · rw [if_pos h]; infer_instance
  · rw [if_neg h]; infer_instance

omit [FloatOps F] in
instance ends_storable (d : Dev nD) (c : Fin τ.nSC) (i : Fin 16) (fh : Buf (Elt F) (hLoc d c)) (fa : Buf (Elt F) (aLoc d)) :
    BI.Storable (upEmb : UEmb _ 𝕄) (ends d c i fh fa : sProp 𝕄) := by
  unfold ends; infer_instance

/-- Each core takes its share and its rows, each tile its own and its part of the barrier; they come back with the rows
    written and the barrier semaphores at zero. -/
def P : (K (F := F)).Pay (nD := nD) (Val := Elt F) (Name := ℕ) (U := UU) where
  st := fun q d c => match q with | 0 => coreWork m d (Fin.cast nCore_zero c) (m (oLoc d)) (m (aLoc d))
  dn := fun q d c => match q with | 0 => iprop(coreWork m d (Fin.cast nCore_zero c) (msg m d) (agg m d) ∗ bars d (Fin.cast nCore_zero c))
  go := fun q d c i => match q with | 0 => tileIn m d (Fin.cast nCore_zero c) (Fin.cast nSub_zero i)
  td := fun q d c i => match q with | 0 => tileOut m d (Fin.cast nCore_zero c) (Fin.cast nSub_zero i)
  x := fun _ thr => match thr with
    | (d, .scVector c i) => bkit (d, c, i)
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub0) bar_ne_go]
      exact ⟨le_rfl, by decide⟩
  ox_tc := fun _ _ => rfl
  ox_sc := fun _ _ _ h => absurd rfl h
  ox_vc := fun q d c i _ => by
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (coreWork m d (Fin.cast nCore_zero c) (m (oLoc d)) (m (aLoc d))))
  dn q d c := match q with
    | 0 => (inferInstance : BI.Storable (upEmb : UEmb _ 𝕄) iprop(coreWork m d (Fin.cast nCore_zero c) (msg m d) (agg m d) ∗ bars d (Fin.cast nCore_zero c)))
  go q d c i := match q with
    | 0 => (inferInstance : BI.Storable (upEmb : UEmb _ 𝕄) (tileIn m d (Fin.cast nCore_zero c) (Fin.cast nSub_zero i)))
  td q d c i := match q with
    | 0 => (inferInstance : BI.Storable (upEmb : UEmb _ 𝕄) (tileOut m d (Fin.cast nCore_zero c) (Fin.cast nSub_zero i)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => taskP (coordsV c s)) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre (tileSh (Fin.cast nCore_zero c) (Fin.cast nSub_zero i)) O W hO hOlev

/-! ## Splitting and joining -/

theorem coreWork_tiles (d : Dev nD) (c : Fin 2) (f : Buf (Elt F) (oLoc d)) :
    (work m d (coreSh c) (163840 * c.val) 163840 f : sProp 𝕄) = bigSep Finset.univ fun i : Fin 16 => tileWork m d c i f := by
  unfold tileWork work argPts
  rw [bigSep_sep', bigSep_sep', bigSep_sep', bigSep_sep', bigSep_sep', ← oPts_tiles d (163840 * c.val) 10240 16 f,
    share_pieces Finset.univ (coreSh c) (m (tLoc d)) 4, share_pieces Finset.univ (coreSh c) (m (fLoc d)) 4,
    share_pieces Finset.univ (coreSh c) (m (nLoc d)) 4, share_pieces Finset.univ (coreSh c) (m (dLoc d)) 4,
    share_pieces Finset.univ (coreSh c) (m (zLoc d)) 4]
  rfl

/-- The arguments and the results, whole. -/
def whole (d : Dev nD) (f : Buf (Elt F) (oLoc d)) (fa : Buf (Elt F) (aLoc d)) : sProp 𝕄 :=
  iprop(((tLoc d ↦{fullShare} m (tLoc d)) ∗ ((fLoc d ↦{fullShare} m (fLoc d)) ∗ nLoc d ↦{fullShare} m (nLoc d))
    ∗ (dLoc d ↦{fullShare} m (dLoc d)) ∗ (zLoc d ↦{fullShare} m (zLoc d)) ∗ oLoc d ↦{fullShare} f) ∗ aLoc d ↦{fullShare} fa)

omit [FloatOps F] in
theorem out_cores (d : Dev nD) (f : Buf (Elt F) (oLoc d)) :
    (oLoc d ↦{fullShare} f : sProp 𝕄) = bigSep Finset.univ fun c : Fin 2 => oPts d (163840 * c.val) 163840 f := by
  have h := oPts_tiles d 0 163840 2 f
  simp only [Nat.zero_add, show 163840 * 2 = 327680 by norm_num] at h
  exact (rowPts_all (fun x : Idx (oLoc d) => ((x : S327680x128.Idx) 0).val) (fun x => (x : S327680x128.Idx) 0 |>.isLt) f).symm.trans h

omit [FloatOps F] in
theorem agg_cores (d : Dev nD) (f : Buf (Elt F) (aLoc d)) :
    (aLoc d ↦{fullShare} f : sProp 𝕄) = bigSep Finset.univ fun c : Fin 2 => rowPts (aRow d) (10000 * c.val) 10000 f := by
  have h := rowPts_tiles (aRow d) 0 10000 2 f
  simp only [Nat.zero_add, show 10000 * 2 = 20000 by norm_num] at h
  exact (rowPts_all (aRow d) (fun x => (x : S20000x128.Idx) 0 |>.isLt) f).symm.trans h

theorem whole_cores (d : Dev nD) (f : Buf (Elt F) (oLoc d)) (fa : Buf (Elt F) (aLoc d)) :
    (whole m d f fa : sProp 𝕄) = bigSep Finset.univ fun c : Fin 2 => coreWork m d c f fa := by
  unfold whole coreWork work argPts
  rw [bigSep_sep', bigSep_sep', bigSep_sep', bigSep_sep', bigSep_sep', bigSep_sep', ← out_cores, ← agg_cores,
    share_pieces Finset.univ fullShare (m (tLoc d)) 1, share_pieces Finset.univ fullShare (m (fLoc d)) 1,
    share_pieces Finset.univ fullShare (m (nLoc d)) 1, share_pieces Finset.univ fullShare (m (dLoc d)) 1,
    share_pieces Finset.univ fullShare (m (zLoc d)) 1]
  rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The shared buffer is one of those the SparseCore's sequencer has: it, in the tiles' parts, and the others. -/
theorem ownBufs_core (d : Dev nD) (c : Fin τ.nSC) :
    (ownBufs (S d c) : sProp 𝕄) = iprop((∃ f : Buf (Elt F) (hLoc d c), bigSep Finset.univ fun i : Fin 16 => endPts (hRow d c) 0 i f)
      ∗ bigSep ((ownRefs (τ := τ) (.scScalar c)).erase (hLoc d c).2) fun b => iprop(∃ f, ((d, b) : Loc nD τ sig) ↦{fullShare} f)) := by
  unfold SparseCore.Cfg.ownBufs
  refine (SparseCore.bigSep_erase' (mem_ownRefs (p := Proc.scScalar c) (b := (hLoc d c).2) |>.mpr rfl)).trans ?_
  refine congrArg (fun X => iprop(X ∗ _)) ?_
  refine congrArg (fun Φ : Buf (Elt F) (hLoc d c) → sProp 𝕄 => iprop(∃ f, Φ f)) (funext fun f => ?_)
  rw [← endPts_all]
  exact (rowPts_all (hRow d c) (fun x => (x : S10000x128.Idx) 0 |>.isLt) f).symm

theorem vecSplit : (K (F := F)).VecSplit (P m) 0 := by
  intro d c
  show iprop(coreWork m d (Fin.cast nCore_zero c) (m (oLoc d)) (m (aLoc d)) ∗ ownBufs (S d (coreOf (Fin.cast nCore_zero c)))) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ iprop((coreWork m d (Fin.cast nCore_zero c) (msg m d) (agg m d) ∗ bars d (Fin.cast nCore_zero c))
            ∗ ownBufs (S d (coreOf (Fin.cast nCore_zero c))))))
  generalize Fin.cast nCore_zero c = c'
  rw [bigSep_tasks (F := F) (fun i => tileIn m d c' i), bigSep_tasks (F := F) (fun i => tileOut m d c' i), ownBufs_core]
  unfold coreWork tileIn tileOut ends
  rw [coreWork_tiles, coreWork_tiles, endPts_all, endPts_all, bigSep_sep', bigSep_sep', bigSep_sep', bigSep_sep']
  iintro ⟨⟨Hw, Ha⟩, ⟨%f, Hh⟩, Hrest⟩
  imodintro
  isplitl [Hw Ha Hh]
  · isplitl [Hw]; · iexact Hw
    iapply (SparseCore.ent (bigSep_mono (Φ := fun i : Fin 16 => iprop(endPts (hRow d (coreOf c')) 0 i f ∗ endPts (aRow d) (10000 * c'.val) i (m (aLoc d))))
      fun i _ => BI.BIClass.exists_intro (Φ := fun f => iprop(endPts (hRow d (coreOf c')) 0 i f ∗ endPts (aRow d) (10000 * c'.val) i (m (aLoc d)))) f))
    rw [bigSep_sep']
    isplitl [Hh]; · iexact Hh
    iexact Ha
  iintro ⟨⟨Hw, Hh, Ha⟩, Hb⟩
  isplitr [Hh Hrest]
  · isplitr [Hb]
    · isplitl [Hw]; · iexact Hw
      iexact Ha
    · iexact Hb
  isplitl [Hh]
  · iexists _; iexact Hh
  · iexact Hrest

theorem st0_eq (d : Dev nD) : (bigSep Finset.univ fun c : Fin ((K (F := F)).nCore 0) => (P m).st 0 d c) = whole m d (m (oLoc d)) (m (aLoc d)) :=
  (bigSep_cores (F := F) fun c => coreWork m d c (m (oLoc d)) (m (aLoc d))).trans (whole_cores m d _ _).symm

/-- What the call leaves on a device. -/
abbrev FIN (d : Dev nD) : sProp 𝕄 := iprop(whole m d (msg m d) (agg m d) ∗ bigSep Finset.univ fun c : Fin 2 => bars (F := F) d c)

theorem dn0_eq (d : Dev nD) : (bigSep Finset.univ fun c : Fin ((K (F := F)).nCore 0) => (P m).dn 0 d c) = FIN m d :=
  (bigSep_cores (F := F) fun c => iprop(coreWork m d c (msg m d) (agg m d) ∗ bars d c)).trans
    ((bigSep_sep' _ _ _).trans (congrArg (fun X => iprop(X ∗ _)) (whole_cores m d _ _).symm))

/-! ## The launch -/

def u₀ : UU := (initOf (K (F := F)).hsCells (K (F := F)).hsToks, (initOf bCells bToks, 1))

theorem creds : ((P (F := F) m).oxCred : sProp 𝕄) ⊢ bigSep Finset.univ fun t : Tile => cred (tallyAt (bcell t) (some 0) (grid0.bound 1)) := by
  unfold SparseCore.Cfg.Pay.oxCred
  rw [SparseCore.Cfg.bigSep_threads (fun thr : Thread nD τ => (cred ((P (F := F) m).oxFrom 0 thr) : sProp 𝕄)), ← cred_tiles]
  refine sep_elim_right.trans (sep_elim_right.trans (Entails.of_eq (bigSep_congr fun t _ => congrArg cred ?_)))
  rw [show (0 : ℕ) = (0 : Fin 1).val from rfl, (P m).oxFrom_step, (P m).oxFrom_end _ (n := (0 : Fin 1).val + 1) le_rfl, add_zero]
  rfl

theorem x_threads : (bigSep Finset.univ fun thr : Thread nD τ => bigSep Finset.univ fun q : Fin 1 => (P (F := F) m).x q thr)
    = iprop(emp ∗ emp ∗ bigSep Finset.univ fun t : Tile => bkit (F := F) t) := by
  rw [SparseCore.Cfg.bigSep_threads (fun thr : Thread nD τ => bigSep Finset.univ fun q : Fin 1 => (P (F := F) m).x q thr)]
  refine congrArg₂ (fun A B => iprop(A ∗ B)) ?_ (congrArg₂ (fun A B => iprop(A ∗ B)) ?_ ?_)
  · exact (bigSep_congr fun _ _ => bigSep_univ_of_subsingleton (0 : Fin 1)).trans (bigSep_emp' _)
  · exact (bigSep_congr fun _ _ => bigSep_univ_of_subsingleton (0 : Fin 1)).trans (bigSep_emp' _)
  · exact bigSep_congr fun _ _ => bigSep_univ_of_subsingleton (0 : Fin 1)

theorem hu₀ : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [x_threads, bigSep_emp']
  iintro ⟨Hu, Hc, Hf⟩
  ihave H := (own_parts _ _) $$ Hu
  icases H with ⟨HH, HB⟩
  ihave Hs := (bars_free (F := F)) $$ Hf
  ihave Hc := (creds m) $$ Hc
  imod (bOpen_alloc (F := F)) $$ [Hs HB] with ⟨Ho, Hat, Htok⟩
  · isplitl [Hs]; · iexact Hs
    iexact HB
  imodintro
  isplitl [HH]; · iexact HH
  isplitr; · iempintro
  isplitr; · iempintro
  isplitr; · iempintro
  iapply (kits (F := F))
  isplitl [Ho]; · iexact Ho
  isplitl [Hat]; · iexact Hat
  isplitl [Htok]; · iexact Htok
  iexact Hc

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (fLoc d ↦{fullShare} W main_arg1) ∗ (dLoc d ↦{fullShare} W main_arg2)
      ∗ (nLoc d ↦{fullShare} W main_arg3) ∗ (zLoc d ↦{fullShare} W main_arg4) ∗ (oLoc d ↦{fullShare} W main_v0_0) ∗ aLoc d ↦{fullShare} W main_v0_1) := by
  unfold unscopedBufs
  rw [show (Finset.univ.filter fun b : Ref sig .tc => ¬ b.isScoped) = {main_arg0, main_arg1, main_arg2, main_arg3, main_arg4, main_v0_0, main_v0_1} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hf, Hd, Hn, Hz, Ho, Ha⟩, Hts, -⟩, -⟩
  iapply ((K (F := F)).wp_run (D (F := F)) 𝒱 (EH := EH) (P := P m) κ d 0) $$ [Hst Ht Hf Hd Hn Hz Ho Ha Hb Hts]
  isplitr; · iexact Hctx
  isplitl [Hst]; · iexact Hst
  isplitl [Ht Hf Hd Hn Hz Ho Ha]
  · rw [st0_eq]
    unfold whole
    isplitr [Ha]; swap; · iexact Ha
    isplitl [Ht]; · iexact Ht
    isplitl [Hf Hn]
    · isplitl [Hf]; · iexact Hf
      iexact Hn
    isplitl [Hd]; · iexact Hd
    isplitl [Hz]; · iexact Hz
    iexact Ho
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- What the run leaves on a device: the two results, and the arguments as they were. -/
def Left (mem : (ℓ : Loc nD τ sig) → Buf (Elt F) ℓ) (d : Dev nD) : Prop :=
  (mem (oLoc d) = msg m d ∧ mem (aLoc d) = agg m d) ∧ mem (tLoc d) = m (tLoc d) ∧ mem (fLoc d) = m (fLoc d) ∧ mem (dLoc d) = m (dLoc d)
    ∧ mem (nLoc d) = m (nLoc d) ∧ mem (zLoc d) = m (zLoc d)

omit [FloatOps F] in
theorem read_back (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem left_whole (d : Dev nD) (s' : Phys nD τ sig (Elt F)) : iprop(whole m d (msg m d) (agg m d) ∗ SI s') ⊢ (⌜Left m s'.mem.mem d⌝ : sProp 𝕄) := by
  unfold whole
  iintro ⟨⟨⟨Ht, ⟨Hf, Hn⟩, Hd, Hz, Ho⟩, Ha⟩, HSI⟩
  ihave H := (read_back s' (tLoc d) _) $$ [Ht HSI]
  · isplitl [Ht] <;> iassumption
  icases H with ⟨%ht, HSI⟩
  ihave H := (read_back s' (fLoc d) _) $$ [Hf HSI]
  · isplitl [Hf] <;> iassumption
  icases H with ⟨%hf, HSI⟩
  ihave H := (read_back s' (dLoc d) _) $$ [Hd HSI]
  · isplitl [Hd] <;> iassumption
  icases H with ⟨%hd, HSI⟩
  ihave H := (read_back s' (nLoc d) _) $$ [Hn HSI]
  · isplitl [Hn] <;> iassumption
  icases H with ⟨%hn, HSI⟩
  ihave H := (read_back s' (zLoc d) _) $$ [Hz HSI]
  · isplitl [Hz] <;> iassumption
  icases H with ⟨%hz, HSI⟩
  ihave H := (read_back s' (aLoc d) _) $$ [Ha HSI]
  · isplitl [Ha] <;> iassumption
  icases H with ⟨%ha, HSI⟩
  ihave H := (read_back s' (oLoc d) _) $$ [Ho HSI]
  · isplitl [Ho] <;> iassumption
  icases H with ⟨%ho, -⟩
  ipureintro; exact ⟨⟨ho, ha⟩, ht, hf, hd, hn, hz⟩

/-- Beside that, every barrier semaphore is at zero. -/
def Ends (d : Dev nD) (s' : Phys nD τ sig (Elt F)) : Prop :=
  Left m s'.mem.mem d ∧ ∀ (c : Fin 2) (i : Fin 16), s'.mem.sem (bcell (d, coreOf c, subOf i)) = 0

theorem hfin (d : Dev nD) (s' : Phys nD τ sig (Elt F)) : iprop(FIN m d ∗ SI s') ⊢ (⌜Ends m d s'⌝ : sProp 𝕄) := fun x hx =>
  ⟨((sep_mono_left sep_elim_left).trans (left_whole m d s')) x hx, fun c i =>
    ((sep_mono_left (sep_elim_right.trans ((SparseCore.ent (bigSep_elim (Finset.mem_univ c))).trans
      (SparseCore.ent (bigSep_elim (Finset.mem_univ i)))))).trans (SparseCore.Cfg.semVal_zero_read _ s')) x hx⟩

def QC : PUnit × MemSt nD τ sig (Elt F) → Prop := fun r => (∀ c : Dev nD, Left m r.2.mem c) ∧ r.2.sem = fun _ => 0

theorem bars_zero (s' : Phys nD τ sig (Elt F)) (h : ∀ d, Ends m d s') (g : GSem nD τ sig) (hg : g ∈ bCells) : s'.mem.sem g = 0 := by
  obtain ⟨⟨d, c, i⟩, -, rfl⟩ := Finset.mem_image.mp hg
  exact (h d).2 c i

theorem run_main [∀ e, Nonempty (Elt F e)] (hpre : PreOK m) :
    θ_run (Cert.EdgeIdeal.defs (F := F)) (Cert.EdgeIdeal.threads (F := F)) ⟨m, fun _ => 0, ρ⟩ (QC m) :=
  SparseCore.Cfg.θ_run_sc_quiescent (K := K (F := F)) (D := D (F := F)) (𝒱 := 𝒱) (EH := EH) (P := P m) (hA := bars_zero m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain m ρ) (Ends m) (hfin m) (QC m) (fun _ h hz => ⟨fun c => (h c).1, hz⟩)

end Cert.EdgeProof

end
-- ==== Proof.EdgeAlg.lean ====
/-
  The claims about `Edge`: the frames at both readings of a float, and the results against the host's gather and product and
  against its two copies of the rows begun with.
-/
module

public import proofs.«01_k».proof.Defs
public import proofs.«01_k».proof.Proof.EdgeRun
public import proofs.«01_k».proof.Proof.Gen.Edge
public import proofs.«01_k».proof.Proof.Gen.EdgeRefIdeal.Run
public import proofs.«01_k».proof.Proof.Gen.Pre_edge_rows
public import Idealize.ShloMosaic.Lib.Routing.Ops
public import Idealize.ShloMosaic.Lib.Claim
public import Idealize.ShloMosaic.Lib.Quiescent

@[expose] public section

set_option maxRecDepth 16384

noncomputable section

namespace Cert.EdgeProof

open Idealize.ShloMosaic Idealize.ShloMosaic.TcCoe Idealize.SL.Sem

/-- A word that is at least zero and below 80000, both read signed, is below 80000 as a natural number. -/
theorem row_word (v : BitVec 32) (e : IntOp.andi (IntOp.cmpi .sge v 0#32) (IntOp.cmpi .slt v 80000#32) = 1#1) : v.toNat < 80000 := by
  have hand (p q : Bool) (h : IntOp.andi (BitVec.ofBool p) (BitVec.ofBool q) = 1#1) : p = true ∧ q = true := by
    revert h; cases p <;> cases q <;> decide
  obtain ⟨h0, h1⟩ := hand _ _ e
  simp only [BitVec.sle_eq_decide, BitVec.slt_eq_decide, decide_eq_true_eq, BitVec.toInt_eq_toNat_cond, BitVec.toNat_ofNat,
    Nat.reducePow, Nat.reduceMod] at h0 h1
  omega

/-- The precondition says that every row number is a row of the table. -/
theorem ok_of_rows {F : FTy → Type} [FloatOps F] (m : (ℓ : Loc Cert.EdgeIdeal.nD Cert.EdgeIdeal.τ Cert.EdgeIdeal.sig) → Buf (Elt F) ℓ)
    (h : ∀ c : Dev Cert.EdgeIdeal.nD, Cert.Pre_edge_rows.fn (F := F) (m (tLoc c)) (m (fLoc c)) (m (dLoc c)) (m (nLoc c)) (m (zLoc c)) = fun _ => 1#1) : PreOK (F := F) m :=
  fun d j => row_word _ (congrFun (h d) j)

theorem frame_ideal : Cert.quiescent_EdgeIdeal := fun m ρ hp =>
  (θ_run Cert.EdgeIdeal.defs _ _).mono (fun _ h => ⟨fun c => (h.1 c).2, h.2⟩) (run_main (F := Ideal) m ρ (ok_of_rows m hp))

theorem frame_bits : Cert.quiescent_Edge := fun m ρ hp =>
  (θ_run Cert.EdgeIdeal.defs _ _).mono (fun _ h => ⟨fun c => (h.1 c).2, h.2⟩) (run_main (F := Bits) m ρ (ok_of_rows m hp))

/-- The host's form runs, its arguments unchanged; it has no semaphore. -/
theorem frame_ref : Cert.quiescent_EdgeRefIdeal := fun m ρ _ =>
  (θ_run Cert.EdgeRefIdeal.defs _ _).mono (fun r h => ⟨fun c => (h c).2.2, Idealize.ShloMosaic.sem_eq_zero_of_no_sems (by decide) r.2⟩)
    (Cert.EdgeRefIdeal.Value.run (F := Ideal) m ρ)

theorem frame_ref_rows : Cert.quiescent_EdgeRefIdeal_pre_edge_rows := fun m ρ _ => frame_ref m ρ trivial

/-- At row number `v` of a row of the table, the host's wrapping of negative numbers leaves `v`. -/
theorem wrap_row (v : BitVec 32) (h : v.toNat < 80000) :
    Scalar.select (IntOp.cmpi .slt v 0#32) (IntOp.addi v 80000#32) v = v := by
  have e : IntOp.cmpi .slt v 0#32 = 0#1 := by
    show BitVec.ofBool (v.slt 0#32) = 0#1
    have : v.slt 0#32 = false := by
      simp only [BitVec.slt_eq_decide, decide_eq_false_iff_not, BitVec.toInt_eq_toNat_cond, BitVec.toNat_ofNat, Nat.reducePow, Nat.reduceMod]
      omega
    rw [this]; rfl
  rw [e]; rfl

/-- The host's gather and product of the arguments is the kernel's result. -/
theorem host_value (m : (ℓ : Loc Cert.EdgeIdeal.nD Cert.EdgeIdeal.τ Cert.EdgeIdeal.sig) → Buf (Elt Ideal) ℓ) (hpre : PreOK (F := Ideal) m)
    (d : Dev Cert.EdgeIdeal.nD) (idx : IVec (Routing.shape2 327680 1) 32)
    (hidx : ∀ c : Fin 327680, idx (ValueIdx.ix2 c (0 : Fin 1)) = m (fLoc d) (ValueIdx.ix1 c)) (w : FVec Ideal Cert.EdgeRefIdeal.S327680x128 .f32)
    (hw : ∀ (c : Fin 327680) (y : Fin 128), w (ValueIdx.ix2 c y) = m (nLoc d) (ValueIdx.ix1 c)) :
    mulf (Host.gather Cert.EdgeRefIdeal.gather_S80000x128_S327680x1_S327680x128_1_0_n_n_0_1_1128 (m (tLoc d)) idx) w = msg m d := by
  funext x
  obtain ⟨c, y, rfl⟩ : ∃ (c : Fin 327680) (y : Fin 128), x = ValueIdx.ix2 c y := ⟨x 0, x 1, by funext a; match a with | ⟨0, _⟩ => rfl | ⟨1, _⟩ => rfl⟩
  have hlt := hpre d (ValueIdx.ix1 c)
  have hg := Routing.gather_row Cert.EdgeRefIdeal.gather_S80000x128_S327680x1_S327680x128_1_0_n_n_0_1_1128 rfl rfl rfl rfl rfl
    (m (tLoc d)) idx c y ⟨(m (fLoc d) (ValueIdx.ix1 c)).toNat, hlt⟩ (by rw [hidx]; simp) (by decide)
  show FloatOps.mulf _ _ = FloatOps.mulf _ _
  refine congrArg₂ _ (hg.trans ?_) ((hw c y).trans ?_)
  · have hf : flAt m d c.val = m (fLoc d) (ValueIdx.ix1 c) := by
      exact congrArg (fun k => m (fLoc d) (ValueIdx.ix1 k)) (Fin.ext (Nat.mod_eq_of_lt c.isLt))
    show _ = gv m d c.val y.val
    unfold gv tabAt
    rw [hf]
    exact congrArg₂ (fun k l => m (tLoc d) (ValueIdx.ix2 k l)) (Fin.ext (Nat.mod_eq_of_lt hlt).symm) (Fin.ext (Nat.mod_eq_of_lt y.isLt).symm)
  · show _ = nvAt m d c.val
    exact congrArg (fun k => m (nLoc d) (ValueIdx.ix1 k)) (Fin.ext (Nat.mod_eq_of_lt c.isLt).symm)

/-- The rows begun with, twice over, are the kernel's second result. -/
theorem host_agg (m : (ℓ : Loc Cert.EdgeIdeal.nD Cert.EdgeIdeal.τ Cert.EdgeIdeal.sig) → Buf (Elt Ideal) ℓ) (d : Dev Cert.EdgeIdeal.nD) :
    concatenate Cert.EdgeRefIdeal.S20000x128 0 [⟨Cert.EdgeRefIdeal.S10000x128, m (zLoc d)⟩, ⟨Cert.EdgeRefIdeal.S10000x128, m (zLoc d)⟩]
      Cert.EdgeRefIdeal.Facts₀.concatenates_S10000x128_S10000x128_S20000x128_d0 = agg m d := by
  funext x
  have h0 : (x 0).val < 20000 := (x 0).isLt
  have h1 : (x 1).val < 128 := (x 1).isLt
  by_cases h : (x 0).val < 10000
  · refine concatenate_pair_apply_left (s₁ := Cert.EdgeRefIdeal.S10000x128) 0 _ _ _ x rfl
      (ValueIdx.ix2 ⟨(x 0).val % 10000, Nat.mod_lt _ (by decide)⟩ ⟨(x 1).val % 128, Nat.mod_lt _ (by decide)⟩) fun b => ?_
    match b with
    | ⟨0, _⟩ => exact Nat.mod_eq_of_lt h
    | ⟨1, _⟩ => exact Nat.mod_eq_of_lt h1
  · refine concatenate_pair_apply_right (s₁ := Cert.EdgeRefIdeal.S10000x128) (s₂ := Cert.EdgeRefIdeal.S10000x128) 0 _ _ _ x rfl rfl
      (ValueIdx.ix2 ⟨(x 0).val % 10000, Nat.mod_lt _ (by decide)⟩ ⟨(x 1).val % 128, Nat.mod_lt _ (by decide)⟩) (fun b hb => ?_) ?_
    · match b with
      | ⟨0, _⟩ => exact absurd rfl hb
      | ⟨1, _⟩ => exact Nat.mod_eq_of_lt h1
    · show (x 0).val % 10000 + 10000 = (x 0).val
      omega

/-- The kernel and the host's plain form end with equal results. -/
theorem alg : Cert.algebraic_EdgeIdeal_EdgeRefIdeal := by
  intro m g m' g' hp hm
  have hpre : PreOK (F := Ideal) m := ok_of_rows m hp
  refine ⟨fun c => msg m c, fun c => agg m c,
    (θ_run Cert.EdgeIdeal.defs _ _).mono (fun _ h c => ⟨(h.1 c).1.1, (h.1 c).1.2, (h.1 c).2⟩) (run_main (F := Ideal) m g hpre),
    (θ_run Cert.EdgeRefIdeal.defs _ _).mono (fun _ h c => ⟨(h c).1.trans ?_, (h c).2.1.trans ?_, (h c).2.2⟩)
      (Cert.EdgeRefIdeal.Value.run (F := Ideal) m' g')⟩
  all_goals obtain ⟨e0, e1, e2, e3, e4⟩ := hm c
  on_goal 2 =>
    rw [e4]
    exact host_agg m c
  rw [e0, e1, e3]
  refine host_value m hpre c _ (fun i => ?_) _ (fun i y => ?_)
  · have hi : (broadcastInDim Cert.EdgeRefIdeal.S327680x1 ![0] Cert.EdgeRefIdeal.Facts₀.bcast_S327680_S327680x1_0 (m (fLoc c))) (ValueIdx.ix2 i (0 : Fin 1)) = m (fLoc c) (ValueIdx.ix1 i) := by
      exact congrArg (m (fLoc c)) (funext fun a => match a with | ⟨0, _⟩ => rfl)
    exact (congrArg (fun v => Scalar.select (IntOp.cmpi .slt v 0#32) (IntOp.addi v 80000#32) v) hi).trans (wrap_row _ (hpre c _))
  · exact congrArg (m (nLoc c)) (funext fun a => match a with | ⟨0, _⟩ => rfl)

end Cert.EdgeProof

end
-- ==== Proof.lean ====
module

public import proofs.«01_k».proof.Proof.Gen.Mm1Ideal.Value
public import proofs.«01_k».proof.Proof.Gen.Mm2Ideal.Value
public import proofs.«01_k».proof.Proof.Gen.FinalIdeal.Value
public import proofs.«01_k».proof.Proof.Gen.Mm1RefIdeal.Read
public import proofs.«01_k».proof.Proof.Gen.Mm2RefIdeal.Read
public import proofs.«01_k».proof.Proof.Gen.FinalRefIdeal.Read
public import proofs.«01_k».proof.Proof.Gen.Mm1RefIdeal.Run
public import proofs.«01_k».proof.Proof.Gen.Mm2RefIdeal.Run
public import proofs.«01_k».proof.Proof.Gen.FinalRefIdeal.Run
public import proofs.«01_k».proof.Defs
public import proofs.«01_k».proof.Proof.Gen.Mm1
public import proofs.«01_k».proof.Proof.Gen.Mm1.Skeleton
public import proofs.«01_k».proof.Proof.Gen.Mm1.Launch
public import proofs.«01_k».proof.Proof.Gen.Mm1.Points
public import proofs.«01_k».proof.Proof.Gen.Mm1.Frame
public import proofs.«01_k».proof.Proof.Gen.Mm1Ideal
public import proofs.«01_k».proof.Proof.Gen.Mm1Ideal.Skeleton
public import proofs.«01_k».proof.Proof.Gen.Mm1Ideal.Launch
public import proofs.«01_k».proof.Proof.Gen.Mm1Ideal.Points
public import proofs.«01_k».proof.Proof.Gen.Mm1Ideal.Frame
public import proofs.«01_k».proof.Proof.Gen.Mm1RefIdeal
public import proofs.«01_k».proof.Proof.Gen.Mm2
public import proofs.«01_k».proof.Proof.Gen.Mm2.Skeleton
public import proofs.«01_k».proof.Proof.Gen.Mm2.Launch
public import proofs.«01_k».proof.Proof.Gen.Mm2.Points
public import proofs.«01_k».proof.Proof.Gen.Mm2.Frame
public import proofs.«01_k».proof.Proof.Gen.Mm2Ideal
public import proofs.«01_k».proof.Proof.Gen.Mm2Ideal.Skeleton
public import proofs.«01_k».proof.Proof.Gen.Mm2Ideal.Launch
public import proofs.«01_k».proof.Proof.Gen.Mm2Ideal.Points
public import proofs.«01_k».proof.Proof.Gen.Mm2Ideal.Frame
public import proofs.«01_k».proof.Proof.Gen.Mm2RefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.Edge
public import proofs.«01_k».proof.Proof.Gen.Edge.Skeleton
public import proofs.«01_k».proof.Proof.Gen.EdgeIdeal
public import proofs.«01_k».proof.Proof.Gen.EdgeIdeal.Skeleton
public import proofs.«01_k».proof.Proof.Gen.EdgeRefIdeal
public import proofs.«01_k».proof.Proof.Gen.Pre_edge_rows
public import proofs.«01_k».proof.Proof.Mm1Alg
public import proofs.«01_k».proof.Proof.Mm2Alg
public import proofs.«01_k».proof.Proof.FinalAlg
public import proofs.«01_k».proof.Proof.EdgeAlg
public import Idealize.ShloMosaic.Adequacy
public import Idealize.ShloMosaic.Init

@[expose] public section

noncomputable section

namespace Cert.Proof

open Idealize.ShloMosaic Idealize.SL.Sem Cert.Mm1

theorem claim : Cert.Claim := ⟨Cert.Edge.Gen.facts, Cert.EdgeIdeal.Gen.facts, Cert.EdgeRefIdeal.Gen.facts, Cert.Mm1.Gen.facts, Cert.Mm1Ideal.Gen.facts, Cert.Mm1RefIdeal.Gen.facts, Cert.Mm2.Gen.facts, Cert.Mm2Ideal.Gen.facts, Cert.Mm2RefIdeal.Gen.facts, Cert.Final.Gen.facts, Cert.FinalIdeal.Gen.facts, Cert.FinalRefIdeal.Gen.facts, Cert.Pre_edge_rows.Gen.facts, by
  exact ⟨Cert.EdgeProof.frame_bits, Cert.EdgeProof.frame_ideal, Cert.EdgeProof.frame_ref, Cert.EdgeProof.frame_ref_rows,
    fun m ρ _ => Cert.Mm1.Gen.frame m ρ,
    fun m ρ _ => Cert.Mm1Ideal.Gen.frame m ρ,
    Cert.Mm1Alg.frame_ref,
    fun m ρ _ => Cert.Mm2.Gen.frame m ρ,
    fun m ρ _ => Cert.Mm2Ideal.Gen.frame m ρ,
    Cert.Mm2Alg.frame_ref,
    fun m ρ _ => Cert.Final.Gen.frame m ρ,
    fun m ρ _ => Cert.FinalIdeal.Gen.frame m ρ,
    Cert.FinalAlg.frame_ref,
    trivial, Cert.EdgeProof.alg, trivial, Cert.Mm1Alg.alg, trivial, Cert.Mm2Alg.alg, trivial, Cert.FinalAlg.alg⟩⟩

end Cert.Proof

end
